-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_half" .f32 0x3E924925#32 ((2 / 7 : ℝ) : EReal)
  ∧ IdealRules.named_const.Statement Cert.KernelIdeal.κ "loss_weight" .f32 0x35333333#32 ((7 / 10485760 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S1024x64 : Shape := ⟨2, ![1024, 64]⟩
abbrev S64 : Shape := ⟨1, ![64]⟩
abbrev S64x1024 : Shape := ⟨2, ![64, 1024]⟩
abbrev S1024 : Shape := ⟨1, ![1024]⟩
abbrev S8192x1024 : Shape := ⟨2, ![8192, 1024]⟩
abbrev S1x64 : Shape := ⟨2, ![1, 64]⟩
abbrev S1x1024 : Shape := ⟨2, ![1, 1024]⟩
abbrev S1x1 : Shape := ⟨2, ![1, 1]⟩
abbrev S6x1024x1024 : Shape := ⟨3, ![6, 1024, 1024]⟩
abbrev S6 : Shape := ⟨1, ![6]⟩
abbrev S9 : Shape := ⟨1, ![9]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S512x64 : Shape := ⟨2, ![512, 64]⟩
abbrev S1x512x64 : Shape := ⟨3, ![1, 512, 64]⟩
abbrev S1x1x1 : Shape := ⟨3, ![1, 1, 1]⟩
abbrev S1x1024x64 : Shape := ⟨3, ![1, 1024, 64]⟩

abbrev nBuf : Space → Nat
  | .hbm => 12
  | .vmem => 6
  | .smem => 1
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S64, .f32⟩
  | .hbm, ⟨3, _⟩ => ⟨S64x1024, .f32⟩
  | .hbm, ⟨4, _⟩ => ⟨S1024, .f32⟩
  | .hbm, ⟨5, _⟩ => ⟨S8192x1024, .f32⟩
  | .hbm, ⟨6, _⟩ => ⟨S1x64, .f32⟩
  | .hbm, ⟨7, _⟩ => ⟨S1x1024, .f32⟩
  | .hbm, ⟨8, _⟩ => ⟨S8192x1024, .f32⟩
  | .hbm, ⟨9, _⟩ => ⟨S1x1, .f32⟩
  | .hbm, ⟨10, _⟩ => ⟨S4x2048x1024, .f32⟩
  | .hbm, ⟨11, _⟩ => ⟨S_, .f32⟩
  | .local _ .vmem, ⟨0, _⟩ => ⟨S1024x64, .f32⟩
  | .local _ .vmem, ⟨1, _⟩ => ⟨S1x64, .f32⟩
  | .local _ .vmem, ⟨2, _⟩ => ⟨S64x1024, .f32⟩
  | .local _ .vmem, ⟨3, _⟩ => ⟨S1x1024, .f32⟩
  | .local _ .vmem, ⟨4, _⟩ => ⟨S6x1024x1024, .f32⟩
  | .local _ .vmem, ⟨5, _⟩ => ⟨S8192x1024, .f32⟩
  | .local _ .smem, ⟨0, _⟩ => ⟨S1x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "inv_half" => some ((2 / 7 : ℝ) : EReal)
  | "loss_weight" => some ((7 / 10485760 : ℝ) : EReal)
  | _ => none
-- ==== ReferenceIdeal.lean ====
abbrev S4x2048x1024 : Shape := ⟨3, ![4, 2048, 1024]⟩
abbrev S1024x64 : Shape := ⟨2, ![1024, 64]⟩
abbrev S64 : Shape := ⟨1, ![64]⟩
abbrev S64x1024 : Shape := ⟨2, ![64, 1024]⟩
abbrev S1024 : Shape := ⟨1, ![1024]⟩
abbrev S4x2048x64 : Shape := ⟨3, ![4, 2048, 64]⟩
abbrev S1x1x64 : Shape := ⟨3, ![1, 1, 64]⟩
abbrev S_ : Shape := ⟨0, ![]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S64, .f32⟩
  | .hbm, ⟨3, _⟩ => ⟨S64x1024, .f32⟩
  | .hbm, ⟨4, _⟩ => ⟨S1024, .f32⟩
  | .hbm, ⟨5, _⟩ => ⟨S4x2048x64, .f32⟩
  | .hbm, ⟨6, _⟩ => ⟨S1x1x64, .f32⟩
  | .hbm, ⟨7, _⟩ => ⟨S4x2048x64, .f32⟩
  | .hbm, ⟨8, _⟩ => ⟨S4x2048x64, .f32⟩
  | .hbm, ⟨9, _⟩ => ⟨S4x2048x64, .f32⟩
  | .hbm, ⟨10, _⟩ => ⟨S_, .f32⟩
  | .hbm, ⟨11, _⟩ => ⟨S4x2048x64, .f32⟩
  | .hbm, ⟨12, _⟩ => ⟨S4x2048x64, .f32⟩
  | .hbm, ⟨13, _⟩ => ⟨S4x2048x64, .f32⟩
  | .hbm, ⟨14, _⟩ => ⟨S4x2048x64, .f32⟩
  | .hbm, ⟨15, _⟩ => ⟨S4x2048x64, .f32⟩
  | .hbm, ⟨16, _⟩ => ⟨S4x2048x64, .f32⟩
  | .hbm, ⟨17, _⟩ => ⟨S4x2048x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x2048x64, .f32⟩
  | .hbm, ⟨23, _⟩ => ⟨S4x2048x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x2048x64, .f32⟩
  | .hbm, ⟨30, _⟩ => ⟨S4x2048x64, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.BitsBody.lean ====
/- The kernel's body in the printed program, run once: from its operands at anything it ends with its four inputs and the
   array it reads as they were, every semaphore at zero, and everything it writes at some contents. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The input rows, the output rows, the six-slot row buffer and the result buffer, each as the body is handed it. -/
abbrev xM : Memref sig .tc .hbm S8192x1024 .f32 := Memref.whole main_v0
abbrev oM : Memref sig .tc .hbm S8192x1024 .f32 := Memref.whole main_v3_0
abbrev xbM : Memref sig .tc .vmem S6x1024x1024 .f32 := Memref.whole cc0_scratch0
abbrev obM : Memref sig .tc .vmem S8192x1024 .f32 := Memref.whole cc0_scratch1

/-- The fifteen semaphores of the body's own transfers: six for the rows coming in, nine for the results going out. -/
abbrev osem0 : Fin 15 → SemLoc sig := fun j =>
  (![SemLoc.dma 5, SemLoc.dma 6, SemLoc.dma 7, SemLoc.dma 8, SemLoc.dma 9, SemLoc.dma 10, SemLoc.dma 11, SemLoc.dma 12,
    SemLoc.dma 13, SemLoc.dma 14, SemLoc.dma 15, SemLoc.dma 16, SemLoc.dma 17, SemLoc.dma 18, SemLoc.dma 19] : Fin 15 → SemLoc sig) j

/-- They all stand at zero. -/
def cells (c : Dev nD) : sProp 𝕄 :=
  iprop(semVal ((c : Thread nD τ), SemLoc.dma 5) 0 ∗ semVal ((c : Thread nD τ), SemLoc.dma 6) 0
      ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0
      ∗ semVal ((c : Thread nD τ), SemLoc.dma 11) 0 ∗ semVal ((c : Thread nD τ), SemLoc.dma 12) 0
      ∗ semVal ((c : Thread nD τ), SemLoc.dma 13) 0 ∗ semVal ((c : Thread nD τ), SemLoc.dma 14) 0
      ∗ semVal ((c : Thread nD τ), SemLoc.dma 15) 0 ∗ semVal ((c : Thread nD τ), SemLoc.dma 16) 0
      ∗ semVal ((c : Thread nD τ), SemLoc.dma 17) 0 ∗ semVal ((c : Thread nD τ), SemLoc.dma 18) 0
      ∗ semVal ((c : Thread nD τ), SemLoc.dma 19) 0)

set_option sl_exec.dmaWindow true in
set_option maxHeartbeats 4000000 in
/-- The body's run: the four inputs and the rows read come back as they were, the semaphores at zero, and what is written
    at some contents. -/
theorem run (c : Dev nD)
    (arg1 : Memref sig .tc .vmem S1024x64 .f32) (h1 : arg1.IsWhole)
    (arg2 : Memref sig .tc .vmem S1x64 .f32) (h2 : arg2.IsWhole)
    (arg3 : Memref sig .tc .vmem S64x1024 .f32) (h3 : arg3.IsWhole)
    (arg4 : Memref sig .tc .vmem S1x1024 .f32) (h4 : arg4.IsWhole)
    (arg6 : Memref sig .tc .smem S1x1 .f32) (h6 : arg6.IsWhole)
    (w1 : Vec F S1024x64 .f32) (w2 : Vec F S1x64 .f32) (w3 : Vec F S64x1024 .f32) (w4 : Vec F S1x1024 .f32)
    (x : Buf (Elt F) (xM.view.loc (c : Thread nD τ))) (W : Waits sig Unit) (K : PUnit → sProp 𝕄) :
    iprop(owns (c : Thread nD τ) arg1 fullShare w1 ∗ owns (c : Thread nD τ) arg2 fullShare w2
      ∗ owns (c : Thread nD τ) arg3 fullShare w3 ∗ owns (c : Thread nD τ) arg4 fullShare w4
      ∗ (∃ d, owns (c : Thread nD τ) arg6 fullShare d)
      ∗ (xM.view.loc (c : Thread nD τ) ↦{fullShare} x)
      ∗ (∃ f, oM.view.loc (c : Thread nD τ) ↦{fullShare} f)
      ∗ (∃ f, xbM.view.loc (c : Thread nD τ) ↦{fullShare} f)
      ∗ (∃ f, obM.view.loc (c : Thread nD τ) ↦{fullShare} f)
      ∗ cells c ∗ owes (c : Thread nD τ) 0 W
      ∗ (iprop(owns (c : Thread nD τ) arg1 fullShare w1 ∗ owns (c : Thread nD τ) arg2 fullShare w2
          ∗ owns (c : Thread nD τ) arg3 fullShare w3 ∗ owns (c : Thread nD τ) arg4 fullShare w4
          ∗ (∃ d, owns (c : Thread nD τ) arg6 fullShare d)
          ∗ (xM.view.loc (c : Thread nD τ) ↦{fullShare} x)
          ∗ (∃ f, oM.view.loc (c : Thread nD τ) ↦{fullShare} f)
          ∗ (∃ f, xbM.view.loc (c : Thread nD τ) ↦{fullShare} f)
          ∗ (∃ f, obM.view.loc (c : Thread nD τ) ↦{fullShare} f)
          ∗ cells c ∗ (∃ W', owes (c : Thread nD τ) 0 W')) -∗ K ⟨⟩))
      ⊢ wp frame (wpE (defs₀ (F := F)) Variants.none c none) Set.univ
          (cc0__fsq_body xM (Memref.isWhole_whole _) arg1 h1 arg2 h2 arg3 h3 arg4 h4 oM (Memref.isWhole_whole _) arg6 h6
            xbM (Memref.isWhole_whole _) obM (Memref.isWhole_whole _) cc0_scratch2 cc0_scratch3) K := by
  rw [cc0__fsq_body_eq_skeleton]; unfold cc0__fsq_body_skel
  unfold cells
  unfold owns
  iintro ⟨⟨%f1, %e1, H1⟩, ⟨%f2, %e2, H2⟩, ⟨%f3, %e3, H3⟩, ⟨%f4, %e4, H4⟩, ⟨%d6, %f6, -, H6⟩, Hx, ⟨%o, Ho⟩, ⟨%xb, Hxb⟩, ⟨%ob, Hob⟩,
    ⟨S5, S6, S7, S8, S9, S10, S11, S12, S13, S14, S15, S16, S17, S18, S19⟩, HW, Hk⟩
  sl_exec
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H6]
  · iexists _, _; isplitr; swap; · iexact H6
    ipureintro; rfl
  isplitl [Hx]; · iexact Hx
  isplitl [Ho]; · iexists _; iexact Ho
  isplitl [Hxb]; · iexists _; iexact Hxb
  isplitl [Hob]; · iexists _; iexact Hob
  isplitl [S5 S6 S7 S8 S9 S10 S11 S12 S13 S14 S15 S16 S17 S18 S19]
  · isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    iexact S19
  iexists _; iexact HW

end Cert.Kernel.Hand

end
-- ==== Proof.BitsFrame.lean ====
/- The printed program's run around its one launch: it ends, its arguments as they were, every counter at zero. The
   window of the scalar result is left at some contents: nothing here reads it. -/
module

public import proofs.«01_k».proof.Proof.Gen.Kernel.Frame
public import proofs.«01_k».proof.Proof.BitsBody
public import Idealize.ShloMosaic.Lib.Pipeline.FrameSuffixR

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The array the body reads itself, the array it writes itself, and the arrays the lines after the launch write. -/
def H0 : Finset (Ref sig .tc) := {main_v0}
def R0 : Finset (Ref sig .tc) := {main_v3_0}
def T0 : Finset (Ref sig .tc) := {main_v4, main_v5}

set_option maxHeartbeats 800000 in
/-- The program around its launch, over this proof's algebra. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = cells c := by
  rw [Pipeline.ownSems0_eq_of_list c osem0 [0, 1, 2, 3, 4, 5, 6, 7, 8, 9, 10, 11, 12, 13, 14] (by decide) (by decide)]; rfl
theorem H0_sub : H0 ⊆ Pipeline.restRefs sig spec0 := by decide
theorem R0_sub : R0 ⊆ Pipeline.restRefs sig spec0 \ H0 := by decide

/-- What the body is handed besides its windows, part by part. -/
theorem PhiDR0_eq (c : Dev nD) :
    (Pipeline.ΦDR osem0 spec0 H0 R0 (V m) c : sProp 𝕄)
      = iprop(iprop((∃ f, xbM.view.loc (c : Thread nD τ) ↦{fullShare} f) ∗ (∃ f, obM.view.loc (c : Thread nD τ) ↦{fullShare} f))
          ∗ (∃ r, prngReg c r) ∗ cells c
          ∗ (xM.view.loc (c : Thread nD τ) ↦{fullShare} V m c main_v0)
          ∗ (∃ f, oM.view.loc (c : Thread nD τ) ↦{fullShare} f)) := by
  rw [Pipeline.ΦDR_eq, scopedRest0_eq, ownSems00_eq]
  unfold Pipeline.owned
  rw [BI.bigSep_eq_bigSepL_of_eq (S := H0) [main_v0] (by decide) (by decide),
    BI.bigSep_eq_bigSepL_of_eq (S := R0) [main_v3_0] (by decide) (by decide)]
  rfl

/-- The lines after the launch write the two results' reshapes only. -/
theorem sfx_T : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.reshape_writes, Finset.mem_singleton] at hb
  · rw [show b = main_v4 from by by_contra h; exact StableHlo.devRef_ne_of_ne h hb]; decide
  · rw [show b = main_v5 from by by_contra h; exact StableHlo.devRef_ne_of_ne h hb]; decide

/-- The windows the claim does not read: the scalar result's. -/
def fgt : Fin 5 → Bool := fun w => match w with | ⟨4, _⟩ => true | _ => false

/-- The launch's data on core `c`: the arrays as the launch finds them, the inputs' blocks left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

/-- Each input window holds its block when the body starts. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ X, owns (c : Thread nD τ) (win0_4.stage (cfg0.slots t 4)) fullShare X))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (∃ X, owns (c : Thread nD τ) (win0_4.stage (cfg0.slots t 4)) fullShare X))

/-- The body from what the launch hands it to what the launch takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1, after2, after3]
  rw [show (dats m 0 c).Φ t.castSucc = Pipeline.ΦDR osem0 spec0 H0 R0 (V m) c from rfl, PhiDR0_eq]
  simp only [before0, before1, before2, before3]
  unfold Dat.owesAt Pipeline.owesWithin
  rw [show (dats m 0 c).owed t.castSucc = 0 from rfl, show (dats m 0 c).owed t.succ = 0 from rfl]
  iintro ⟨⟨⟨Hxb, Hob⟩, Hg, Hc, Hx, Ho⟩, ⟨%W, -, HW⟩, ⟨%d0, H0⟩, ⟨%d1, H1⟩, ⟨%d2, H2⟩, ⟨%d3, H3⟩, H4⟩
  iapply (run c _ _ _ _ _ _ _ _ _ _ (iblk m c 0 t) (iblk m c 1 t) (iblk m c 2 t) (iblk m c 3 t) (V m c main_v0) W _)
  isplitl [H0]; · iexact H0
  isplitl [H1]; · iexact H1
  isplitl [H2]; · iexact H2
  isplitl [H3]; · iexact H3
  isplitl [H4]; · iexact H4
  isplitl [Hx]; · iexact Hx
  isplitl [Ho]; · iexact Ho
  isplitl [Hxb]; · iexact Hxb
  isplitl [Hob]; · iexact Hob
  isplitl [Hc]; · iexact Hc
  isplitl [HW]; · iexact HW
  iintro ⟨H0, H1, H2, H3, H4, Hx, Ho, Hxb, Hob, Hc, ⟨%W', HW'⟩⟩
  isplitl [Hxb Hob Hg Hc Hx Ho]
  · isplitl [Hxb Hob]
    · isplitl [Hxb]; · iexact Hxb
      iexact Hob
    isplitl [Hg]; · iexact Hg
    isplitl [Hc]; · iexact Hc
    isplitl [Hx]; · iexact Hx
    iexact Ho
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The whole program's run: the inputs' arrays and every array no line writes as the launch found them, all counters zero. -/
theorem run_main : θ_run defs (onTc (τ := τ) (main (F := F))) (s₀ m ρ)
    (fun r => Pipeline.RDat.FramePostR cfg0 (fun c => (dats m 0 c).toRForget fgt) (R0 ∪ T0) (V m) r ∧ r.2.sem = fun _ => 0) :=
  Pipeline.θ_run_frame_dmaR_around_T_forget (Q' := _) cfgs (dats m) (0 : Fin 1) launch0 osem0 defs₀ Variants.none fgt ownSemFacts0
    H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmainD m Variants.none) (hA := A_eq m)
    (hin := fun _ => .rfl) (hout := fun _ => .rfl)

/-- The program ends, nothing faults, its five arguments are as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨((h.1 c).2 main_arg0 (Finset.mem_sdiff.mpr ⟨Pipeline.mem_restRefs_of main_arg0 (by decide) (by decide), by decide⟩)).trans (V_main_arg0 m c),
      (h.1.arr_in c 0 rfl).trans ((A_eq m c 0).trans (V_main_arg1 m c)),
      ((h.1 c).2 main_arg2 (Finset.mem_sdiff.mpr ⟨Pipeline.mem_restRefs_of main_arg2 (by decide) (by decide), by decide⟩)).trans (V_main_arg2 m c),
      (h.1.arr_in c 2 rfl).trans ((A_eq m c 2).trans (V_main_arg3 m c)),
      ((h.1 c).2 main_arg4 (Finset.mem_sdiff.mpr ⟨Pipeline.mem_restRefs_of main_arg4 (by decide) (by decide), by decide⟩)).trans (V_main_arg4 m c)⟩,
    h.2⟩) (run_main m ρ)

end Cert.Kernel.Hand

end
-- ==== Proof.Chunk.lean ====
/- What the kernel computes of one chunk of rows, for its two chunk sizes: the bounded latents, the rows of the result, and the
   sum of the squared distances from the latents to their levels; and the loss it makes of the nine sums. -/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- The bounded latents of 512 rows: tanh of the projected rows, times 3.5. -/
def latents512 (w1 : Vec F S1024x64 .f32) (w2 : Vec F S1x64 .f32) (b : FVec F S512x1024 .f32) : FVec F S512x64 .f32 :=
  mulf (tanh (addf (matmul dot_S512x1024_S1024x64_S512x64_1_0_0_1_n_n none b w1 (constant S512x64 .f32 0x00000000#32))
    (broadcastTo S512x64 (shapeCast S1x64 w2 shapeCasts_S1x64_S1x64) broadcasts_S1x64_S512x64)))
    (broadcast S512x64 (Scalar.ofBits .f32 0x40600000#32))

/-- The bounded latents of 1024 rows. -/
def latents1024 (w1 : Vec F S1024x64 .f32) (w2 : Vec F S1x64 .f32) (b : FVec F S1024x1024 .f32) : FVec F S1024x64 .f32 :=
  mulf (tanh (addf (matmul dot_S1024x1024_S1024x64_S1024x64_1_0_0_1_n_n none b w1 (constant S1024x64 .f32 0x00000000#32))
    (broadcastTo S1024x64 (shapeCast S1x64 w2 shapeCasts_S1x64_S1x64) broadcasts_S1x64_S1024x64)))
    (broadcast S1024x64 (Scalar.ofBits .f32 0x40600000#32))

/-- The result's 512 rows of the latents `z`: the levels scaled back and projected. -/
def rows512 (w3 : Vec F S64x1024 .f32) (w4 : Vec F S1x1024 .f32) (z : FVec F S512x64 .f32) : FVec F S512x1024 .f32 :=
  shapeCast S512x1024 (addf (matmul dot_S512x64_S64x1024_S512x1024_1_0_0_1_n_n none
      (mulf (roundeven z) (broadcast S512x64 (Named.named κ "inv_half" 0x3E924925#32))) w3 (constant S512x1024 .f32 0x00000000#32))
    (broadcastTo S512x1024 (shapeCast S1x1024 w4 shapeCasts_S1x1024_S1x1024) broadcasts_S1x1024_S512x1024))
    shapeCasts_S512x1024_S512x1024

/-- The result's 1024 rows of the latents `z`. -/
def rows1024 (w3 : Vec F S64x1024 .f32) (w4 : Vec F S1x1024 .f32) (z : FVec F S1024x64 .f32) : FVec F S1024x1024 .f32 :=
  shapeCast S1024x1024 (addf (matmul dot_S1024x64_S64x1024_S1024x1024_1_0_0_1_n_n none
      (mulf (roundeven z) (broadcast S1024x64 (Named.named κ "inv_half" 0x3E924925#32))) w3 (constant S1024x1024 .f32 0x00000000#32))
    (broadcastTo S1024x1024 (shapeCast S1x1024 w4 shapeCasts_S1x1024_S1x1024) broadcasts_S1x1024_S1024x1024))
    shapeCasts_S1024x1024_S1024x1024

/-- The sum over 512 rows of the squared distances from the latents `z` to their levels. -/
def dist512 (z : FVec F S512x64 .f32) : F .f32 :=
  extractAt ![0, 0, 0] (shapeCast S1x1x1 (multiReduction .add [1, 2] S1
    (shapeCast S1x512x64 (mulf (subf (roundeven z) z) (subf (roundeven z) z)) shapeCasts_S512x64_S1x512x64)
    0x00000000#32 reduces_S1x512x64_S1 (.inl rfl) rfl) shapeCasts_S1_S1x1x1) inpos_S1x1x1_p0_0_0

/-- The sum over 1024 rows. -/
def dist1024 (z : FVec F S1024x64 .f32) : F .f32 :=
  extractAt ![0, 0, 0] (shapeCast S1x1x1 (multiReduction .add [1, 2] S1
    (shapeCast S1x1024x64 (mulf (subf (roundeven z) z) (subf (roundeven z) z)) shapeCasts_S1024x64_S1x1024x64)
    0x00000000#32 reduces_S1x1024x64_S1 (.inl rfl) rfl) shapeCasts_S1_S1x1x1) inpos_S1x1x1_p0_0_0

/-- The 512 rows from row `o`. -/
abbrev piece512 (o : ℕ) (inb : ∀ a, (![o, 0] : Fin 2 → ℕ) a + S512x1024.size a ≤ S8192x1024.size a) : Rect S8192x1024 :=
  Rect.unit (s := S8192x1024) ![o, 0] S512x1024.size inb

/-- The 1024 rows from row `o`. -/
abbrev piece1024 (o : ℕ) (inb : ∀ a, (![o, 0] : Fin 2 → ℕ) a + S1024x1024.size a ≤ S8192x1024.size a) : Rect S8192x1024 :=
  Rect.unit (s := S8192x1024) ![o, 0] S1024x1024.size inb

/-- The latents of the 512 rows from row `o` of `x`. -/
abbrev lat512 (w1 : Vec F S1024x64 .f32) (w2 : Vec F S1x64 .f32) (x : Vec F S8192x1024 .f32) (o : ℕ)
    (inb : ∀ a, (![o, 0] : Fin 2 → ℕ) a + S512x1024.size a ≤ S8192x1024.size a) : FVec F S512x64 .f32 :=
  latents512 w1 w2 fun j => x ((piece512 o inb).emb j)

/-- The latents of the 1024 rows from row `o` of `x`. -/
abbrev lat1024 (w1 : Vec F S1024x64 .f32) (w2 : Vec F S1x64 .f32) (x : Vec F S8192x1024 .f32) (o : ℕ)
    (inb : ∀ a, (![o, 0] : Fin 2 → ℕ) a + S1024x1024.size a ≤ S8192x1024.size a) : FVec F S1024x64 .f32 :=
  latents1024 w1 w2 fun j => x ((piece1024 o inb).emb j)

/-- The loss the kernel makes of the nine chunks' sums: added up from zero in the rows' order, then weighted. -/
def lossOf (w1 : Vec F S1024x64 .f32) (w2 : Vec F S1x64 .f32) (x : Vec F S8192x1024 .f32) : F .f32 :=
  Scalar.mulf (Named.named κ "loss_weight" 0x35333333#32)
    (Scalar.addf (Scalar.addf (Scalar.addf (Scalar.addf (Scalar.addf (Scalar.addf (Scalar.addf (Scalar.addf
      (Scalar.addf (Scalar.ofBits .f32 0x00000000#32)
        (dist512 (lat512 w1 w2 x 0 inb_S8192x1024_S512x1024_0_0)))
        (dist1024 (lat1024 w1 w2 x 512 inb_S8192x1024_S1024x1024_512_0)))
        (dist1024 (lat1024 w1 w2 x 1536 inb_S8192x1024_S1024x1024_1536_0)))
        (dist1024 (lat1024 w1 w2 x 2560 inb_S8192x1024_S1024x1024_2560_0)))
        (dist1024 (lat1024 w1 w2 x 3584 inb_S8192x1024_S1024x1024_3584_0)))
        (dist1024 (lat1024 w1 w2 x 4608 inb_S8192x1024_S1024x1024_4608_0)))
        (dist1024 (lat1024 w1 w2 x 5632 inb_S8192x1024_S1024x1024_5632_0)))
        (dist1024 (lat1024 w1 w2 x 6656 inb_S8192x1024_S1024x1024_6656_0)))
        (dist512 (lat512 w1 w2 x 7680 inb_S8192x1024_S512x1024_7680_0)))

/-- What it is for `G` to be the result: its two outer chunks of 512 rows and its seven chunks of 1024 rows are what the
    kernel computes of those rows of `x`. -/
structure Holds (w1 : Vec F S1024x64 .f32) (w2 : Vec F S1x64 .f32) (w3 : Vec F S64x1024 .f32) (w4 : Vec F S1x1024 .f32)
    (x G : Vec F S8192x1024 .f32) : Prop where
  outer : ∀ o inb j, rows512 w3 w4 (lat512 w1 w2 x o inb) j = G ((piece512 o inb).emb j)
  inner : ∀ o inb j, rows1024 w3 w4 (lat1024 w1 w2 x o inb) j = G ((piece1024 o inb).emb j)

end Cert.KernelIdeal.Hand

end
-- ==== Proof.Slots.lean ====
/- Reading a buffer that is filled slot by slot, each slot a rectangle of the buffer with its unit axis dropped: a load at the
   slot last filled reads what was put there, and a load at a slot apart from it reads what was there before. -/
module

public import Idealize.ShloMosaic.Lib.Writes
public import Idealize.ShloMosaic.Lib.ViewIndex
public import Idealize.ShloMosaic.PureOps

@[expose] public section

noncomputable section

namespace Cert.Slots

open Idealize.ShloMosaic

variable {sig : RefSig} {κ : Kind} {sp : Space} {s : Shape} {e : EltTy} {Val : EltTy → Type}

/-- The slot just filled, read back and brought to the shape it was filled at, is what was put there. -/
theorem load_own (M : Memref sig κ sp s e) (R : Rect s) (hr : ∀ a, R.stride a = 1) (s' : Shape) (hq : R.shape.Squeezes s')
    (f : M.view.ty.Contents Val) (w : s'.Idx → Val e) (hc : R.shape.ShapeCasts s') :
    shapeCast s' (M.view.readAt Val R.toLoadRect
      (((M.slice R hr).squeeze s' hq).view.write Val f w Finset.univ)) hc = w := by
  funext y
  exact View.read_write_of_mem (v := ((M.slice R hr).squeeze s' hq).view) f w (Finset.mem_univ y)

/-- Two stretches of unit-stride rectangles lie apart on the leading axis. -/
def Apart (o n o' n' : ℕ) : Prop := o + n ≤ o' ∨ o' + n' ≤ o

instance (o n o' n' : ℕ) : Decidable (Apart o n o' n') := inferInstanceAs (Decidable (_ ∨ _))

/-- A load at a slot apart from the one just filled reads what was there before it was filled. -/
theorem load_other (M : Memref sig κ sp s e) (a : Fin s.rank) (off size off' size' : Fin s.rank → ℕ)
    (inb : ∀ a, off a + size a ≤ s.size a) (inb' : ∀ a, off' a + size' a ≤ s.size a)
    (hr : ∀ a, (Rect.unit off' size' inb').stride a = 1) (s' : Shape) (hq : (Rect.unit off' size' inb').shape.Squeezes s')
    (f : M.view.ty.Contents Val) (w : s'.Idx → Val e) (h : Apart (off a) (size a) (off' a) (size' a)) :
    M.view.readAt Val (Rect.unit off size inb).toLoadRect
        (((M.slice (Rect.unit off' size' inb') hr).squeeze s' hq).view.write Val f w Finset.univ)
      = M.view.readAt Val (Rect.unit off size inb).toLoadRect f := by
  funext y
  apply View.read_congr_at
  apply View.write_of_not_mem
  intro hm
  obtain ⟨x, _, hx⟩ := Finset.mem_map.mp hm
  have hx' : (Rect.unit off' size' inb').emb (Shape.reshapeEquiv hq.numel_eq x) = (Rect.unit off size inb).emb y :=
    M.view.emb.injective hx
  have h0 := congrArg (fun i : s.Idx => (i a : ℕ)) hx'
  simp only [Rect.emb_apply] at h0
  have h1 : off' a + 1 * ((Shape.reshapeEquiv hq.numel_eq x) a : ℕ) = off a + 1 * (y a : ℕ) := h0
  have b1 : ((Shape.reshapeEquiv hq.numel_eq x) a : ℕ) < size' a := ((Shape.reshapeEquiv hq.numel_eq x) a).isLt
  have b2 : (y a : ℕ) < size a := (y a).isLt
  rcases h with h | h <;> omega

/-- The slot just filled does not matter to a load elsewhere, whatever the load is then brought to. -/
theorem load_keep (M : Memref sig κ sp s e) (a : Fin s.rank) (off size off' size' : Fin s.rank → ℕ)
    (inb : ∀ a, off a + size a ≤ s.size a) (inb' : ∀ a, off' a + size' a ≤ s.size a)
    (hr : ∀ a, (Rect.unit off' size' inb').stride a = 1) (s' t : Shape) (hq : (Rect.unit off' size' inb').shape.Squeezes s')
    (f : M.view.ty.Contents Val) (w : s'.Idx → Val e) (hc : (Rect.unit off size inb).shape.ShapeCasts t) (b : t.Idx → Val e)
    (h : Apart (off a) (size a) (off' a) (size' a))
    (hb : shapeCast t (M.view.readAt Val (Rect.unit off size inb).toLoadRect f) hc = b) :
    shapeCast t (M.view.readAt Val (Rect.unit off size inb).toLoadRect
      (((M.slice (Rect.unit off' size' inb') hr).squeeze s' hq).view.write Val f w Finset.univ)) hc = b := by
  rw [load_other M a off size off' size' inb inb' hr s' hq f w h, hb]

/-- The rectangle last stored through a view, read back through the slice of that rectangle, is what was stored. -/
theorem slice_last (M : Memref sig κ sp s e) (R : Rect s) (hr : ∀ a, R.stride a = 1) (f : M.view.ty.Contents Val)
    (w : R.shape.Idx → Val e) (L : List (View.Piece Val s e)) :
    (M.slice R hr).view.read Val (M.view.writes Val f (⟨R, w⟩ :: L)) = w :=
  funext fun x => View.read_writes_cons_emb M.view f R w L x

end Cert.Slots

end
-- ==== Proof.IdealBody.lean ====
/- The kernel's body run once, with what it leaves: the result array at any `G` whose nine chunks are what the kernel computes
   of those rows, the loss at the weighted sum, the inputs as they were, and every semaphore at zero. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Chunk
public import proofs.«01_k».proof.Proof.Slots
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The input rows, the output rows, the six-slot row buffer and the result buffer, each as the body is handed it. -/
abbrev xM : Memref sig .tc .hbm S8192x1024 .f32 := Memref.whole main_v0
abbrev oM : Memref sig .tc .hbm S8192x1024 .f32 := Memref.whole main_v3_0
abbrev xbM : Memref sig .tc .vmem S6x1024x1024 .f32 := Memref.whole cc0_scratch0
abbrev obM : Memref sig .tc .vmem S8192x1024 .f32 := Memref.whole cc0_scratch1

/-- The fifteen semaphores of the body's own transfers: six for the rows coming in, nine for the results going out. -/
abbrev osem0 : Fin 15 → SemLoc sig := fun j =>
  (![SemLoc.dma 5, SemLoc.dma 6, SemLoc.dma 7, SemLoc.dma 8, SemLoc.dma 9, SemLoc.dma 10, SemLoc.dma 11, SemLoc.dma 12,
    SemLoc.dma 13, SemLoc.dma 14, SemLoc.dma 15, SemLoc.dma 16, SemLoc.dma 17, SemLoc.dma 18, SemLoc.dma 19] : Fin 15 → SemLoc sig) j

/-- They all stand at zero. -/
def cells (c : Dev nD) : sProp 𝕄 :=
  iprop(semVal ((c : Thread nD τ), SemLoc.dma 5) 0 ∗ semVal ((c : Thread nD τ), SemLoc.dma 6) 0
      ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0
      ∗ semVal ((c : Thread nD τ), SemLoc.dma 11) 0 ∗ semVal ((c : Thread nD τ), SemLoc.dma 12) 0
      ∗ semVal ((c : Thread nD τ), SemLoc.dma 13) 0 ∗ semVal ((c : Thread nD τ), SemLoc.dma 14) 0
      ∗ semVal ((c : Thread nD τ), SemLoc.dma 15) 0 ∗ semVal ((c : Thread nD τ), SemLoc.dma 16) 0
      ∗ semVal ((c : Thread nD τ), SemLoc.dma 17) 0 ∗ semVal ((c : Thread nD τ), SemLoc.dma 18) 0
      ∗ semVal ((c : Thread nD τ), SemLoc.dma 19) 0)

/-- A row among the `n` from row `o` lies in their rectangle. -/
theorem mem_piece (o n : ℕ) (inb : ∀ a, (![o, 0] : Fin 2 → ℕ) a + (![n, 1024] : Fin 2 → ℕ) a ≤ S8192x1024.size a)
    (y : S8192x1024.Idx) (h : o ≤ (y 0).val) (h' : (y 0).val < o + n) :
    y ∈ (Rect.unit (s := S8192x1024) ![o, 0] ![n, 1024] inb).set := by
  refine (Rect.unit (s := S8192x1024) ![o, 0] ![n, 1024] inb).mem_set.mpr fun a => ?_
  match a with
  | ⟨0, _⟩ => exact ⟨(y 0).val - o, by show (y 0).val - o < n; omega, by show (y 0).val = o + 1 * ((y 0).val - o); omega⟩
  | ⟨1, _⟩ => exact ⟨(y 1).val, (y 1).isLt, by show (y 1).val = 0 + 1 * (y 1).val; omega⟩

/-- Pieces of `G`, and one more piece of `G` in front. -/
theorem pieces_cons (G : (i : S8192x1024.Idx) → Elt F .f32) (R : Rect S8192x1024) (w : R.shape.Idx → Elt F .f32)
    (L : List (View.Piece (Elt F) S8192x1024 .f32)) (h : w = fun j => G (R.emb j))
    (hL : ∀ p ∈ L, ∀ j : p.1.shape.Idx, p.2 j = G (p.1.emb j)) :
    ∀ p ∈ (⟨R, w⟩ :: L : List (View.Piece (Elt F) S8192x1024 .f32)), ∀ j : p.1.shape.Idx, p.2 j = G (p.1.emb j) := by
  intro p hp
  rcases List.mem_cons.mp hp with e | hp
  · subst e; exact fun j => congrFun h j
  · exact hL p hp

/-- Pieces stored into the result that cover it and are pieces of `G` leave `G`. -/
theorem covered (o G : (i : S8192x1024.Idx) → Elt F .f32) (L : List (View.Piece (Elt F) S8192x1024 .f32))
    (hp : ∀ p ∈ L, ∀ j : p.1.shape.Idx, p.2 j = G (p.1.emb j)) (y : S8192x1024.Idx) (hy : ∃ p ∈ L, y ∈ p.1.set) :
    oM.view.writes (Elt F) o L y = G y := by
  have h := View.read_writes_apply_of_pieces oM.view o G L hp y hy
  exact h

/-- Nine chunks stored into the result, each the chunk of `G` at its rows, leave `G`. -/
theorem stored (o G : (i : S8192x1024.Idx) → Elt F .f32)
    (q7680 : S512x1024.Idx → Elt F .f32)
    (q6656 : S1024x1024.Idx → Elt F .f32)
    (q5632 : S1024x1024.Idx → Elt F .f32)
    (q4608 : S1024x1024.Idx → Elt F .f32)
    (q3584 : S1024x1024.Idx → Elt F .f32)
    (q2560 : S1024x1024.Idx → Elt F .f32)
    (q1536 : S1024x1024.Idx → Elt F .f32)
    (q512 : S1024x1024.Idx → Elt F .f32)
    (q0 : S512x1024.Idx → Elt F .f32)
    (h7680 : q7680 = fun j => G ((piece512 7680 inb_S8192x1024_S512x1024_7680_0).emb j))
    (h6656 : q6656 = fun j => G ((piece1024 6656 inb_S8192x1024_S1024x1024_6656_0).emb j))
    (h5632 : q5632 = fun j => G ((piece1024 5632 inb_S8192x1024_S1024x1024_5632_0).emb j))
    (h4608 : q4608 = fun j => G ((piece1024 4608 inb_S8192x1024_S1024x1024_4608_0).emb j))
    (h3584 : q3584 = fun j => G ((piece1024 3584 inb_S8192x1024_S1024x1024_3584_0).emb j))
    (h2560 : q2560 = fun j => G ((piece1024 2560 inb_S8192x1024_S1024x1024_2560_0).emb j))
    (h1536 : q1536 = fun j => G ((piece1024 1536 inb_S8192x1024_S1024x1024_1536_0).emb j))
    (h512 : q512 = fun j => G ((piece1024 512 inb_S8192x1024_S1024x1024_512_0).emb j))
    (h0 : q0 = fun j => G ((piece512 0 inb_S8192x1024_S512x1024_0_0).emb j))
    : oM.view.writes (Elt F) o [⟨Rect.unit (s := S8192x1024) ![7680, 0] S512x1024.size inb_S8192x1024_S512x1024_7680_0, q7680⟩,
        ⟨Rect.unit (s := S8192x1024) ![6656, 0] S1024x1024.size inb_S8192x1024_S1024x1024_6656_0, q6656⟩,
        ⟨Rect.unit (s := S8192x1024) ![5632, 0] S1024x1024.size inb_S8192x1024_S1024x1024_5632_0, q5632⟩,
        ⟨Rect.unit (s := S8192x1024) ![4608, 0] S1024x1024.size inb_S8192x1024_S1024x1024_4608_0, q4608⟩,
        ⟨Rect.unit (s := S8192x1024) ![3584, 0] S1024x1024.size inb_S8192x1024_S1024x1024_3584_0, q3584⟩,
        ⟨Rect.unit (s := S8192x1024) ![2560, 0] S1024x1024.size inb_S8192x1024_S1024x1024_2560_0, q2560⟩,
        ⟨Rect.unit (s := S8192x1024) ![1536, 0] S1024x1024.size inb_S8192x1024_S1024x1024_1536_0, q1536⟩,
        ⟨Rect.unit (s := S8192x1024) ![512, 0] S1024x1024.size inb_S8192x1024_S1024x1024_512_0, q512⟩,
        ⟨Rect.unit (s := S8192x1024) ![0, 0] S512x1024.size inb_S8192x1024_S512x1024_0_0, q0⟩] = G := by
  refine funext fun y => covered o G _ ?_ y ?_
  · refine pieces_cons G _ _ _ h7680 (pieces_cons G _ _ _ h6656 (pieces_cons G _ _ _ h5632 (pieces_cons G _ _ _ h4608 (pieces_cons G _ _ _ h3584 (pieces_cons G _ _ _ h2560 (pieces_cons G _ _ _ h1536 (pieces_cons G _ _ _ h512 (pieces_cons G _ _ _ h0 (fun p hp => absurd hp List.not_mem_nil)))))))))
  · have hy : (y 0).val < 8192 := (y 0).isLt
    simp only [List.exists_mem_cons_iff]
    rcases lt_or_ge (y 0).val 512 with c0 | c0
    · exact Or.inr (Or.inr (Or.inr (Or.inr (Or.inr (Or.inr (Or.inr (Or.inr (Or.inl (mem_piece 0 512 _ y (by omega) (by omega))))))))))
    rcases lt_or_ge (y 0).val 1536 with c1 | c1
    · exact Or.inr (Or.inr (Or.inr (Or.inr (Or.inr (Or.inr (Or.inr (Or.inl (mem_piece 512 1024 _ y (by omega) (by omega)))))))))
    rcases lt_or_ge (y 0).val 2560 with c2 | c2
    · exact Or.inr (Or.inr (Or.inr (Or.inr (Or.inr (Or.inr (Or.inl (mem_piece 1536 1024 _ y (by omega) (by omega))))))))
    rcases lt_or_ge (y 0).val 3584 with c3 | c3
    · exact Or.inr (Or.inr (Or.inr (Or.inr (Or.inr (Or.inl (mem_piece 2560 1024 _ y (by omega) (by omega)))))))
    rcases lt_or_ge (y 0).val 4608 with c4 | c4
    · exact Or.inr (Or.inr (Or.inr (Or.inr (Or.inl (mem_piece 3584 1024 _ y (by omega) (by omega))))))
    rcases lt_or_ge (y 0).val 5632 with c5 | c5
    · exact Or.inr (Or.inr (Or.inr (Or.inl (mem_piece 4608 1024 _ y (by omega) (by omega)))))
    rcases lt_or_ge (y 0).val 6656 with c6 | c6
    · exact Or.inr (Or.inr (Or.inl (mem_piece 5632 1024 _ y (by omega) (by omega))))
    rcases lt_or_ge (y 0).val 7680 with c7 | c7
    · exact Or.inr (Or.inl (mem_piece 6656 1024 _ y (by omega) (by omega)))
    exact Or.inl (mem_piece 7680 512 _ y (by omega) (by omega))

/-- The one number stored into a one-element buffer is what is read there. -/
theorem stored_one (v : Memref sig .tc .smem S1x1 .f32) (f : v.view.ty.Contents (Elt F)) (w w' : Elt F .f32) (h : w = w') :
    v.view.read (Elt F) (v.view.writes (Elt F) f [⟨Rect.unit ![0, 0] S1x1.size inb_S1x1_S1x1_0_0, fun _ => w⟩]) = fun _ => w' := by
  funext y
  have hy : (Rect.unit (s := S1x1) ![0, 0] S1x1.size inb_S1x1_S1x1_0_0).emb y = y := by
    refine Rect.emb_eq_of_coords _ _ _ fun a => ?_
    match a with
    | ⟨0, _⟩ => show (y 0).val = 0 + 1 * (y 0).val; omega
    | ⟨1, _⟩ => show (y 1).val = 0 + 1 * (y 1).val; omega
  rw [View.read_writes_cons_hit v.view f _ _ _ y y hy, h]

/-- A chunk of the result copied out of the buffer it was last stored into is what was stored. -/
theorem copied (R : Rect S8192x1024) (hr : ∀ a, R.stride a = 1) (f : (i : S8192x1024.Idx) → Elt F .f32) (w : R.shape.Idx → Elt F .f32)
    (L : List (View.Piece (Elt F) S8192x1024 .f32)) :
    ReadAs.same.apply (View.read (Elt F) (obM.slice R hr).view (obM.view.writes (Elt F) f (⟨R, w⟩ :: L))) = w :=
  Cert.Slots.slice_last (Val := Elt F) obM R hr f w L

set_option sl_exec.dmaWindow true in
set_option maxHeartbeats 4000000 in
/-- The body's run: the result array holds `G`, the loss is the weighted sum of the nine chunks' distances, the inputs come
    back as they were, the semaphores at zero, the two scratch buffers at some contents. -/
theorem run (c : Dev nD)
    (arg1 : Memref sig .tc .vmem S1024x64 .f32) (h1 : arg1.IsWhole)
    (arg2 : Memref sig .tc .vmem S1x64 .f32) (h2 : arg2.IsWhole)
    (arg3 : Memref sig .tc .vmem S64x1024 .f32) (h3 : arg3.IsWhole)
    (arg4 : Memref sig .tc .vmem S1x1024 .f32) (h4 : arg4.IsWhole)
    (arg6 : Memref sig .tc .smem S1x1 .f32) (h6 : arg6.IsWhole)
    (w1 : Vec F S1024x64 .f32) (w2 : Vec F S1x64 .f32) (w3 : Vec F S64x1024 .f32) (w4 : Vec F S1x1024 .f32)
    (x : Buf (Elt F) (xM.view.loc (c : Thread nD τ))) (G : Buf (Elt F) (oM.view.loc (c : Thread nD τ))) (hG : Holds w1 w2 w3 w4 x G)
    (W : Waits sig Unit) (K : PUnit → sProp 𝕄) :
    iprop(owns (c : Thread nD τ) arg1 fullShare w1 ∗ owns (c : Thread nD τ) arg2 fullShare w2
      ∗ owns (c : Thread nD τ) arg3 fullShare w3 ∗ owns (c : Thread nD τ) arg4 fullShare w4
      ∗ (∃ d, owns (c : Thread nD τ) arg6 fullShare d)
      ∗ (xM.view.loc (c : Thread nD τ) ↦{fullShare} x)
      ∗ (∃ f, oM.view.loc (c : Thread nD τ) ↦{fullShare} f)
      ∗ (∃ f, xbM.view.loc (c : Thread nD τ) ↦{fullShare} f)
      ∗ (∃ f, obM.view.loc (c : Thread nD τ) ↦{fullShare} f)
      ∗ cells c ∗ owes (c : Thread nD τ) 0 W
      ∗ (iprop(owns (c : Thread nD τ) arg1 fullShare w1 ∗ owns (c : Thread nD τ) arg2 fullShare w2
          ∗ owns (c : Thread nD τ) arg3 fullShare w3 ∗ owns (c : Thread nD τ) arg4 fullShare w4
          ∗ owns (c : Thread nD τ) arg6 fullShare (fun _ => lossOf w1 w2 x)
          ∗ (xM.view.loc (c : Thread nD τ) ↦{fullShare} x)
          ∗ (∃ f, ⌜f = G⌝ ∗ (oM.view.loc (c : Thread nD τ) ↦{fullShare} f))
          ∗ (∃ f, xbM.view.loc (c : Thread nD τ) ↦{fullShare} f)
          ∗ (∃ f, obM.view.loc (c : Thread nD τ) ↦{fullShare} f)
          ∗ cells c ∗ (∃ W', owes (c : Thread nD τ) 0 W')) -∗ K ⟨⟩))
      ⊢ wp frame (wpE (defs₀ (F := F)) Variants.none c none) Set.univ
          (cc0__fsq_body xM (Memref.isWhole_whole _) arg1 h1 arg2 h2 arg3 h3 arg4 h4 oM (Memref.isWhole_whole _) arg6 h6
            xbM (Memref.isWhole_whole _) obM (Memref.isWhole_whole _) cc0_scratch2 cc0_scratch3) K := by
  rw [cc0__fsq_body_eq_skeleton]; unfold cc0__fsq_body_skel
  unfold cells
  unfold owns
  iintro ⟨⟨%f1, %e1, H1⟩, ⟨%f2, %e2, H2⟩, ⟨%f3, %e3, H3⟩, ⟨%f4, %e4, H4⟩, ⟨%d6, %f6, -, H6⟩, Hx, ⟨%o, Ho⟩, ⟨%xb, Hxb⟩, ⟨%ob, Hob⟩,
    ⟨S5, S6, S7, S8, S9, S10, S11, S12, S13, S14, S15, S16, S17, S18, S19⟩, HW, Hk⟩
  sl_exec
  sl_exec
  sl_step
  have hr : run.sl.r c arg1 f1 = w1 := (View.readAt_full _ f1 _).trans e1
  have hr1 : run.sl.r_1 c arg3 f3 = w3 := (View.readAt_full _ f3 _).trans e3
  have hv3 : run.sl.v3 c arg2 f2 = shapeCast S1x64 w2 shapeCasts_S1x64_S1x64 :=
    congrArg (fun v => shapeCast S1x64 v shapeCasts_S1x64_S1x64) ((View.readAt_full _ f2 _).trans e2)
  have hv5 : run.sl.v5 c arg4 f4 = shapeCast S1x1024 w4 shapeCasts_S1x1024_S1x1024 :=
    congrArg (fun v => shapeCast S1x1024 v shapeCasts_S1x1024_S1x1024) ((View.readAt_full _ f4 _).trans e4)
  have hv41 : shapeCast S512x1024 (run.sl.v41 c x xb) shapeCasts_S1x512x1024_S512x1024
      = fun j => x ((piece512 0 inb_S8192x1024_S512x1024_0_0).emb j) := by
    delta run.sl.v41
    repeat refine Cert.Slots.load_keep xbM 0 _ _ _ _ _ _ _ _ _ _ _ _ _ _ (by decide) ?_
    exact Cert.Slots.load_own xbM _ _ _ _ _ _ _
  have hv79 : shapeCast S1024x1024 (run.sl.v79 c x xb) shapeCasts_S1x1024x1024_S1024x1024
      = fun j => x ((piece1024 512 inb_S8192x1024_S1024x1024_512_0).emb j) := by
    delta run.sl.v79
    repeat refine Cert.Slots.load_keep xbM 0 _ _ _ _ _ _ _ _ _ _ _ _ _ _ (by decide) ?_
    exact Cert.Slots.load_own xbM _ _ _ _ _ _ _
  have hv117 : shapeCast S1024x1024 (run.sl.v117 c x xb) shapeCasts_S1x1024x1024_S1024x1024
      = fun j => x ((piece1024 1536 inb_S8192x1024_S1024x1024_1536_0).emb j) := by
    delta run.sl.v117
    repeat refine Cert.Slots.load_keep xbM 0 _ _ _ _ _ _ _ _ _ _ _ _ _ _ (by decide) ?_
    exact Cert.Slots.load_own xbM _ _ _ _ _ _ _
  have hv155 : shapeCast S1024x1024 (run.sl.v155 c x xb) shapeCasts_S1x1024x1024_S1024x1024
      = fun j => x ((piece1024 2560 inb_S8192x1024_S1024x1024_2560_0).emb j) := by
    delta run.sl.v155
    repeat refine Cert.Slots.load_keep xbM 0 _ _ _ _ _ _ _ _ _ _ _ _ _ _ (by decide) ?_
    exact Cert.Slots.load_own xbM _ _ _ _ _ _ _
  have hv188 : shapeCast S1024x1024 (run.sl.v188 c x xb) shapeCasts_S1x1024x1024_S1024x1024
      = fun j => x ((piece1024 3584 inb_S8192x1024_S1024x1024_3584_0).emb j) := by
    delta run.sl.v188
    repeat refine Cert.Slots.load_keep xbM 0 _ _ _ _ _ _ _ _ _ _ _ _ _ _ (by decide) ?_
    exact Cert.Slots.load_own xbM _ _ _ _ _ _ _
  have hv221 : shapeCast S1024x1024 (run.sl.v221 c x xb) shapeCasts_S1x1024x1024_S1024x1024
      = fun j => x ((piece1024 4608 inb_S8192x1024_S1024x1024_4608_0).emb j) := by
    delta run.sl.v221
    repeat refine Cert.Slots.load_keep xbM 0 _ _ _ _ _ _ _ _ _ _ _ _ _ _ (by decide) ?_
    exact Cert.Slots.load_own xbM _ _ _ _ _ _ _
  have hv254 : shapeCast S1024x1024 (run.sl.v254 c x xb) shapeCasts_S1x1024x1024_S1024x1024
      = fun j => x ((piece1024 5632 inb_S8192x1024_S1024x1024_5632_0).emb j) := by
    delta run.sl.v254
    repeat refine Cert.Slots.load_keep xbM 0 _ _ _ _ _ _ _ _ _ _ _ _ _ _ (by decide) ?_
    exact Cert.Slots.load_own xbM _ _ _ _ _ _ _
  have hv287 : shapeCast S1024x1024 (run.sl.v287 c x xb) shapeCasts_S1x1024x1024_S1024x1024
      = fun j => x ((piece1024 6656 inb_S8192x1024_S1024x1024_6656_0).emb j) := by
    delta run.sl.v287
    repeat refine Cert.Slots.load_keep xbM 0 _ _ _ _ _ _ _ _ _ _ _ _ _ _ (by decide) ?_
    exact Cert.Slots.load_own xbM _ _ _ _ _ _ _
  have hv320 : shapeCast S512x1024 (run.sl.v320 c x xb) shapeCasts_S1x512x1024_S512x1024
      = fun j => x ((piece512 7680 inb_S8192x1024_S512x1024_7680_0).emb j) := by
    delta run.sl.v320
    repeat refine Cert.Slots.load_keep xbM 0 _ _ _ _ _ _ _ _ _ _ _ _ _ _ (by decide) ?_
    exact Cert.Slots.load_own xbM _ _ _ _ _ _ _
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H6]
  · iexists _; isplitr; swap; · iexact H6
    ipureintro
    have l0 : run.sl.r_2 c arg1 arg2 x f1 f2 xb
        = Scalar.addf (Scalar.ofBits .f32 0x00000000#32) (dist512 (lat512 w1 w2 x 0 inb_S8192x1024_S512x1024_0_0)) := by
      delta run.sl.r_2 run.sl.v51 run.sl.v50 run.sl.v43 run.sl.v42 run.sl.v49 run.sl.cst
      rw [hv3, hr]
      exact congrArg (fun b => Scalar.addf (Scalar.ofBits .f32 0x00000000#32) (dist512 (latents512 w1 w2 b))) hv41
    have l1 : run.sl.r_4 c arg1 arg2 x f1 f2 xb = Scalar.addf (run.sl.r_2 c arg1 arg2 x f1 f2 xb)
        (dist1024 (lat1024 w1 w2 x 512 inb_S8192x1024_S1024x1024_512_0)) := by
      delta run.sl.r_4 run.sl.r_3
      rw [hv3, hr]
      exact congrArg (fun b => Scalar.addf (run.sl.r_2 c arg1 arg2 x f1 f2 xb) (dist1024 (latents1024 w1 w2 b))) hv79
    have l2 : run.sl.r_5 c arg1 arg2 x f1 f2 xb = Scalar.addf (run.sl.r_4 c arg1 arg2 x f1 f2 xb)
        (dist1024 (lat1024 w1 w2 x 1536 inb_S8192x1024_S1024x1024_1536_0)) := by
      delta run.sl.r_5
      rw [hv3, hr]
      exact congrArg (fun b => Scalar.addf (run.sl.r_4 c arg1 arg2 x f1 f2 xb) (dist1024 (latents1024 w1 w2 b))) hv117
    have l3 : run.sl.r_6 c arg1 arg2 x f1 f2 xb = Scalar.addf (run.sl.r_5 c arg1 arg2 x f1 f2 xb)
        (dist1024 (lat1024 w1 w2 x 2560 inb_S8192x1024_S1024x1024_2560_0)) := by
      delta run.sl.r_6
      rw [hv3, hr]
      exact congrArg (fun b => Scalar.addf (run.sl.r_5 c arg1 arg2 x f1 f2 xb) (dist1024 (latents1024 w1 w2 b))) hv155
    have l4 : run.sl.r_7 c arg1 arg2 x f1 f2 xb = Scalar.addf (run.sl.r_6 c arg1 arg2 x f1 f2 xb)
        (dist1024 (lat1024 w1 w2 x 3584 inb_S8192x1024_S1024x1024_3584_0)) := by
      delta run.sl.r_7
      rw [hv3, hr]
      exact congrArg (fun b => Scalar.addf (run.sl.r_6 c arg1 arg2 x f1 f2 xb) (dist1024 (latents1024 w1 w2 b))) hv188
    have l5 : run.sl.r_8 c arg1 arg2 x f1 f2 xb = Scalar.addf (run.sl.r_7 c arg1 arg2 x f1 f2 xb)
        (dist1024 (lat1024 w1 w2 x 4608 inb_S8192x1024_S1024x1024_4608_0)) := by
      delta run.sl.r_8
      rw [hv3, hr]
      exact congrArg (fun b => Scalar.addf (run.sl.r_7 c arg1 arg2 x f1 f2 xb) (dist1024 (latents1024 w1 w2 b))) hv221
    have l6 : run.sl.r_9 c arg1 arg2 x f1 f2 xb = Scalar.addf (run.sl.r_8 c arg1 arg2 x f1 f2 xb)
        (dist1024 (lat1024 w1 w2 x 5632 inb_S8192x1024_S1024x1024_5632_0)) := by
      delta run.sl.r_9
      rw [hv3, hr]
      exact congrArg (fun b => Scalar.addf (run.sl.r_8 c arg1 arg2 x f1 f2 xb) (dist1024 (latents1024 w1 w2 b))) hv254
    have l7 : run.sl.r_11 c arg1 arg2 x f1 f2 xb = Scalar.addf (run.sl.r_9 c arg1 arg2 x f1 f2 xb)
        (dist1024 (lat1024 w1 w2 x 6656 inb_S8192x1024_S1024x1024_6656_0)) := by
      delta run.sl.r_11 run.sl.r_10 run.sl.cst_191
      rw [hv3, hr]
      exact congrArg (fun b => Scalar.addf (run.sl.r_9 c arg1 arg2 x f1 f2 xb) (dist1024 (latents1024 w1 w2 b))) hv287
    refine stored_one arg6 f6 _ _ ?_
    unfold lossOf
    rw [← l0, ← l1, ← l2, ← l3, ← l4, ← l5, ← l6, ← l7]
    delta run.sl.r_12
    rw [hv3, hr]
    exact congrArg (fun b => Scalar.mulf (Named.named κ "loss_weight" 0x35333333#32)
      (Scalar.addf (run.sl.r_11 c arg1 arg2 x f1 f2 xb) (dist512 (latents512 w1 w2 b)))) hv320
  isplitl [Hx]; · iexact Hx
  isplitl [Ho]
  · iexists _; isplitr; swap; · iexact Ho
    ipureintro
    refine stored o G _ _ _ _ _ _ _ _ _ ?_ ?_ ?_ ?_ ?_ ?_ ?_ ?_ ?_
    · delta run.sl.dma31 run.sl.Hob_9
      refine (copied _ _ ob _ _).trans ?_
      delta run.sl.r_12
      rw [hv5, hv3, hr, hr1]
      exact (congrArg (fun b => rows512 w3 w4 (latents512 w1 w2 b)) hv320).trans
        (funext (hG.outer 7680 inb_S8192x1024_S512x1024_7680_0))
    · delta run.sl.dma28 run.sl.Hob_8
      refine (copied _ _ ob _ _).trans ?_
      delta run.sl.r_10 run.sl.cst_191
      rw [hv5, hv3, hr, hr1]
      exact (congrArg (fun b => rows1024 w3 w4 (latents1024 w1 w2 b)) hv287).trans
        (funext (hG.inner 6656 inb_S8192x1024_S1024x1024_6656_0))
    · delta run.sl.dma25 run.sl.Hob_7
      refine (copied _ _ ob _ _).trans ?_
      rw [hv5, hv3, hr, hr1]
      exact (congrArg (fun b => rows1024 w3 w4 (latents1024 w1 w2 b)) hv254).trans
        (funext (hG.inner 5632 inb_S8192x1024_S1024x1024_5632_0))
    · delta run.sl.dma22 run.sl.Hob_6
      refine (copied _ _ ob _ _).trans ?_
      rw [hv5, hv3, hr, hr1]
      exact (congrArg (fun b => rows1024 w3 w4 (latents1024 w1 w2 b)) hv221).trans
        (funext (hG.inner 4608 inb_S8192x1024_S1024x1024_4608_0))
    · delta run.sl.dma19 run.sl.Hob_5
      refine (copied _ _ ob _ _).trans ?_
      rw [hv5, hv3, hr, hr1]
      exact (congrArg (fun b => rows1024 w3 w4 (latents1024 w1 w2 b)) hv188).trans
        (funext (hG.inner 3584 inb_S8192x1024_S1024x1024_3584_0))
    · delta run.sl.dma16 run.sl.Hob_4
      refine (copied _ _ ob _ _).trans ?_
      rw [hv5, hv3, hr, hr1]
      exact (congrArg (fun b => rows1024 w3 w4 (latents1024 w1 w2 b)) hv155).trans
        (funext (hG.inner 2560 inb_S8192x1024_S1024x1024_2560_0))
    · delta run.sl.dma13 run.sl.Hob_3
      refine (copied _ _ ob _ _).trans ?_
      rw [hv5, hv3, hr, hr1]
      exact (congrArg (fun b => rows1024 w3 w4 (latents1024 w1 w2 b)) hv117).trans
        (funext (hG.inner 1536 inb_S8192x1024_S1024x1024_1536_0))
    · delta run.sl.dma10 run.sl.Hob_2
      refine (copied _ _ ob _ _).trans ?_
      delta run.sl.r_3
      rw [hv5, hv3, hr, hr1]
      exact (congrArg (fun b => rows1024 w3 w4 (latents1024 w1 w2 b)) hv79).trans
        (funext (hG.inner 512 inb_S8192x1024_S1024x1024_512_0))
    · delta run.sl.dma7 run.sl.Hob_1
      refine (copied _ _ ob _ _).trans ?_
      delta run.sl.v51 run.sl.v50 run.sl.v43 run.sl.v42 run.sl.v49 run.sl.cst
      rw [hv5, hv3, hr, hr1]
      exact (congrArg (fun b => rows512 w3 w4 (latents512 w1 w2 b)) hv41).trans
        (funext (hG.outer 0 inb_S8192x1024_S512x1024_0_0))
  isplitl [Hxb]; · iexists _; iexact Hxb
  isplitl [Hob]; · iexists _; iexact Hob
  isplitl [S5 S6 S7 S8 S9 S10 S11 S12 S13 S14 S15 S16 S17 S18 S19]
  · isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    iexact S19
  iexists _; iexact HW

end Cert.KernelIdeal.Hand

end
-- ==== Proof.IdealFrame.lean ====
/- The printed program's run around its one launch: it ends with the result array at any contents whose chunks are what the
   kernel computes, with the loss at the weighted sum, its arguments as they were, and every counter at zero. -/
module

public import proofs.«01_k».proof.Proof.Gen.KernelIdeal.Frame
public import proofs.«01_k».proof.Proof.IdealBody
public import Idealize.ShloMosaic.Lib.Pipeline.FrameSuffixV
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
  (gr : (c : Dev nD) → Buf (Elt F) (oM.view.loc (c : Thread nD τ)))

/-- The array the body reads itself and the array it writes itself. -/
def H0 : Finset (Ref sig .tc) := {main_v0}
def R0 : Finset (Ref sig .tc) := {main_v3_0}

set_option maxHeartbeats 800000 in
/-- The program around its launch, over this proof's algebra. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = cells c := by
  rw [Pipeline.ownSems0_eq_of_list c osem0 [0, 1, 2, 3, 4, 5, 6, 7, 8, 9, 10, 11, 12, 13, 14] (by decide) (by decide)]; rfl
theorem H0_sub : H0 ⊆ Pipeline.restRefs sig spec0 := by decide
theorem R0_sub : R0 ⊆ Pipeline.restRefs sig spec0 \ H0 := by decide

/-- The contents in which the result array is left: `gr` there, everything else as the launch finds it. -/
def Gv (c : Dev nD) (b : Ref sig .tc) : Buf (Elt F) ((c : Thread nD τ).loc b) :=
  Function.update (V m c) main_v3_0 (gr c) b

theorem Gv_out (c : Dev nD) : Gv m gr c main_v3_0 = gr c := Function.update_self ..

/-- What the body is handed besides its windows, part by part. -/
theorem PhiDRV0_eq (G : (c : Dev nD) → (b : Ref sig .tc) → Buf (Elt F) ((c : Thread nD τ).loc b)) (c : Dev nD) :
    (Pipeline.ΦDRV osem0 spec0 H0 R0 (V m) G c : sProp 𝕄)
      = iprop(iprop((∃ f, xbM.view.loc (c : Thread nD τ) ↦{fullShare} f) ∗ (∃ f, obM.view.loc (c : Thread nD τ) ↦{fullShare} f))
          ∗ cells c
          ∗ (xM.view.loc (c : Thread nD τ) ↦{fullShare} V m c main_v0)
          ∗ (oM.view.loc (c : Thread nD τ) ↦{fullShare} G c main_v3_0)) := by
  unfold Pipeline.ΦDRV
  rw [scopedRest0_eq, ownSems00_eq]
  rw [BI.bigSep_eq_bigSepL_of_eq (S := H0) [main_v0] (by decide) (by decide),
    BI.bigSep_eq_bigSepL_of_eq (S := R0) [main_v3_0] (by decide) (by decide)]
  rfl

/-- The loss as the launch's input arrays give it. -/
abbrev lossAt (c : Dev nD) (t : Fin cfg0.N) : Elt F .f32 := lossOf (iblk m c 0 t) (iblk m c 1 t) (V m c main_v0)

/-- The launch's data on core `c`: the arrays as the launch finds them, the inputs' blocks left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => lossAt m c t
  Φ k := if k.val = 0 then Pipeline.ΦDRV osem0 spec0 H0 R0 (V m) (V m) c else Pipeline.ΦDRV osem0 spec0 H0 R0 (V m) (Gv m gr) c
  q _ := fullShare
  owed _ := 0

theorem A_eq (c : Dev nD) (w : Fin cfg0.W) : (dats m gr 0 c).A w = V m c (Pipeline.arrRef spec0 w) := by
  dsimp only [dats]
theorem after0 (c : Dev nD) (t : Fin cfg0.N) : (dats m gr 0 c).after 0 t = iblk m c 0 t := by dsimp only [dats]
theorem after1 (c : Dev nD) (t : Fin cfg0.N) : (dats m gr 0 c).after 1 t = iblk m c 1 t := by dsimp only [dats]
theorem after2 (c : Dev nD) (t : Fin cfg0.N) : (dats m gr 0 c).after 2 t = iblk m c 2 t := by dsimp only [dats]
theorem after4 (c : Dev nD) (t : Fin cfg0.N) : (dats m gr 0 c).after 4 t = fun _ => lossAt m c t := by dsimp only [dats]
theorem after3 (c : Dev nD) (t : Fin cfg0.N) : (dats m gr 0 c).after 3 t = iblk m c 3 t := by dsimp only [dats]

/-- Each input window holds its block when the body starts. -/
theorem before0 (c : Dev nD) (t : Fin cfg0.N) (d) : (dats m gr 0 c).before 0 t d = iblk m c 0 t :=
  ((dats m gr 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg0.N) (d) : (dats m gr 0 c).before 1 t d = iblk m c 1 t :=
  ((dats m gr 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin cfg0.N) (d) : (dats m gr 0 c).before 2 t d = iblk m c 2 t :=
  ((dats m gr 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (c : Dev nD) (t : Fin cfg0.N) (d) : (dats m gr 0 c).before 3 t d = iblk m c 3 t :=
  ((dats m gr 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)

def bodyPre (c : Dev nD) (t : Fin cfg0.N) : sProp 𝕄 :=
  iprop((dats m gr 0 c).Φ t.castSucc ∗ (dats m gr 0 c).owesAt () t.castSucc
    ∗ (∃ d, owns (c : Thread nD τ) (win0_0.stage (cfg0.slots t 0)) fullShare ((dats m gr 0 c).before 0 t d))
    ∗ (∃ d, owns (c : Thread nD τ) (win0_1.stage (cfg0.slots t 1)) fullShare ((dats m gr 0 c).before 1 t d))
    ∗ (∃ d, owns (c : Thread nD τ) (win0_2.stage (cfg0.slots t 2)) fullShare ((dats m gr 0 c).before 2 t d))
    ∗ (∃ d, owns (c : Thread nD τ) (win0_3.stage (cfg0.slots t 3)) fullShare ((dats m gr 0 c).before 3 t d))
    ∗ (∃ d, owns (c : Thread nD τ) (win0_4.stage (cfg0.slots t 4)) fullShare ((dats m gr 0 c).before 4 t d)))
def bodyPost (c : Dev nD) (t : Fin cfg0.N) : sProp 𝕄 :=
  iprop((dats m gr 0 c).Φ t.succ ∗ (dats m gr 0 c).owesAt () t.succ
    ∗ owns (c : Thread nD τ) (win0_0.stage (cfg0.slots t 0)) fullShare ((dats m gr 0 c).after 0 t)
    ∗ owns (c : Thread nD τ) (win0_1.stage (cfg0.slots t 1)) fullShare ((dats m gr 0 c).after 1 t)
    ∗ owns (c : Thread nD τ) (win0_2.stage (cfg0.slots t 2)) fullShare ((dats m gr 0 c).after 2 t)
    ∗ owns (c : Thread nD τ) (win0_3.stage (cfg0.slots t 3)) fullShare ((dats m gr 0 c).after 3 t)
    ∗ owns (c : Thread nD τ) (win0_4.stage (cfg0.slots t 4)) fullShare ((dats m gr 0 c).after 4 t))

/-- The launch's one point. -/
abbrev pt : Fin cfg0.N := ⟨0, Nat.lt_of_lt_of_eq Nat.zero_lt_one N_0.symm⟩

theorem Phi_first (c : Dev nD) (t : Fin cfg0.N) :
    (dats m gr 0 c).Φ t.castSucc = Pipeline.ΦDRV osem0 spec0 H0 R0 (V m) (V m) c := by
  dsimp only [dats]
  exact if_pos (by have h := t.isLt; have e : cfg0.N = 1 := N_0; show t.val = 0; omega)
theorem Phi_last (c : Dev nD) (t : Fin cfg0.N) :
    (dats m gr 0 c).Φ t.succ = Pipeline.ΦDRV osem0 spec0 H0 R0 (V m) (Gv m gr) c := by
  dsimp only [dats]
  exact if_neg (by show t.val + 1 ≠ 0; omega)

variable (hG : ∀ c t, Holds (iblk m c 0 t) (iblk m c 1 t) (iblk m c 2 t) (iblk m c 3 t) (V m c main_v0) (gr c))

include hG in
/-- The body from what the launch hands it to what the launch takes back. -/
theorem sound_body (c : Dev nD) (t : Fin cfg0.N) :
    bodyPre m gr c t ⊢ wp frame (wpE (defs₀ (F := F)) Variants.none c none) Set.univ (bodyAt0 t) (fun _ => bodyPost m gr c t) := by
  unfold bodyPre bodyPost bodyAt0
  rw [Phi_first, Phi_last, after0, after1, after2, after3, after4, PhiDRV0_eq, PhiDRV0_eq, Gv_out]
  simp only [before0, before1, before2, before3]
  unfold Dat.owesAt Pipeline.owesWithin
  rw [show (dats m gr 0 c).owed t.castSucc = 0 from rfl, show (dats m gr 0 c).owed t.succ = 0 from rfl]
  iintro ⟨⟨⟨Hxb, Hob⟩, Hc, Hx, Ho⟩, ⟨%W, -, HW⟩, ⟨%d0, H0⟩, ⟨%d1, H1⟩, ⟨%d2, H2⟩, ⟨%d3, H3⟩, ⟨%d4, H4⟩⟩
  iapply (run c _ _ _ _ _ _ _ _ _ _ (iblk m c 0 t) (iblk m c 1 t) (iblk m c 2 t) (iblk m c 3 t) (V m c main_v0) (gr c) (hG c t) W _)
  isplitl [H0]; · iexact H0
  isplitl [H1]; · iexact H1
  isplitl [H2]; · iexact H2
  isplitl [H3]; · iexact H3
  isplitl [H4]; · iexists _; iexact H4
  isplitl [Hx]; · iexact Hx
  isplitl [Ho]; · iexists _; iexact Ho
  isplitl [Hxb]; · iexact Hxb
  isplitl [Hob]; · iexact Hob
  isplitl [Hc]; · iexact Hc
  isplitl [HW]; · iexact HW
  iintro ⟨H0, H1, H2, H3, H4, Hx, ⟨%f, %e, Ho⟩, Hxb, Hob, Hc, ⟨%W', HW'⟩⟩
  rw [e]
  isplitl [Hxb Hob Hc Hx Ho]
  · isplitl [Hxb Hob]
    · isplitl [Hxb]; · iexact Hxb
      iexact Hob
    isplitl [Hc]; · iexact Hc
    isplitl [Hx]; · iexact Hx
    iexact Ho
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

include hG in
theorem body_obligation (c : Dev nD) : BodyObligation (dats (F := F) m gr 0 c) (defs₀ (F := F)) Variants.none () Set.univ := fun t => by
  rw [bigSep_W0, bigSep_W0, defs₀_row]
  exact triple_restated (sound_body m gr hG c t) rfl .rfl fun _ => .rfl

/-- What the lines after the launch leave in a buffer, the launch having left its arrays at their final contents. -/
abbrev atEnd (c : Dev nD) (b : Ref sig .tc) : Buf (Elt F) ((c : Thread nD τ).loc b) :=
  StableHlo.after (List.flatten [hostOps1]) (Pipeline.withArrays spec0 c (Pipeline.withR (V0 m c) R0 c (Gv m gr c))
    fun w => (dats m gr 0 c).arrAt w cfg0.N) (Proc.devRef .tc b)

set_option backward.isDefEq.respectTransparency.types false in
include hG in
/-- The whole program's run: every window's array at its final contents, every other array as the later lines leave it, all
    counters zero. -/
theorem run_main : θ_run defs (onTc (τ := τ) (main (F := F))) (s₀ m ρ)
    (fun r => (∀ c : Dev nD, (∀ w, r.2.mem ((spec0 w).arr.view.loc (c : Thread nD τ)) = (dats m gr 0 c).arrAt w cfg0.N)
      ∧ ∀ b ∈ Pipeline.restRefs sig spec0, r.2.mem ((c : Thread nD τ).loc b) = atEnd m gr c b) ∧ r.2.sem = fun _ => 0) :=
  Pipeline.θ_run_frame_dmaR_aroundV (Q' := _) cfgs (dats m gr) (0 : Fin 1) launch0 osem0 defs₀ Variants.none ownSemFacts0
    H0 R0 H0_sub R0_sub m ρ main
    (hbody := fun c => (body_obligation m gr hG c).loose) (hshare := fun c => (dats m gr 0 c).share_full fun _ => rfl)
    (howed := fun _ _ => rfl) (V₀ := V0 m) (opss := [hostOps1]) (hsub := sfx_sub) (hfresh := sfx_fresh) (hkeep := sfx_keeps)
    (G := Gv m gr) (hmain := hmainD m Variants.none) (hA := A_eq m gr)
    (hin := fun c => (Phi_first m gr c pt).symm ▸ .rfl) (hout := fun c => (Phi_last m gr c pt) ▸ .rfl)
    (hQ' := fun _ h => ⟨h.1, h.2⟩)

end Cert.KernelIdeal.Hand

end
-- ==== Proof.IdealEnd.lean ====
/- What the printed program leaves in its two results and its five arguments, read off its run: the first result is the
   array the launch wrote, reshaped; the second is the loss; the arguments are as they were. -/
module

public import proofs.«01_k».proof.Proof.IdealFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F] [Named F]
variable (m : (ℓ : Loc nD τ sig) → Buf (Elt F) ℓ) (ρ : Dev nD → PrngReg)
  (gr : (c : Dev nD) → Buf (Elt F) (oM.view.loc (c : Thread nD τ)))

/-- The loss's array ends at the loss. -/
theorem arr_loss (c : Dev nD) : (dats m gr 0 c).arrAt 4 cfg0.N = fun _ => lossAt m c pt := by
  refine (dats m gr 0 c).arrAt_eq_of_cover 4 _ (fun t _ => ?_) fun i => ⟨pt, flush0_4 pt, ?_⟩
  · have ht : t = pt := Fin.ext (by have h := t.isLt; have e : cfg0.N = 1 := N_0; have h' : t.val < 1 := e ▸ h; show t.val = 0; omega)
    subst ht
    show (cfg0.win 4).cut (grid0.coords pt) ((dats m gr 0 c).after 4 pt) = _
    rw [after4]; rfl
  · show i ∈ ((View.whole main_v3_1).slice (win0_4.rect pt)).set
    rw [View.set_slice_whole, Rect.mem_set_unit]
    have e : ∀ a, win0_4.kind.off (win0_4.index pt a) (win0_4.size a) = 0 ∧ win0_4.xsize (grid0.coords pt) a = S1x1.size a := by decide +kernel
    intro a
    have h := (i a).isLt
    rw [(e a).1, (e a).2]
    exact ⟨Nat.zero_le _, by rw [Nat.zero_add]; exact h⟩

/-- The lines after the launch leave the reshape of the launch's result array in the first result. -/
theorem end_out (c : Dev nD) : atEnd m gr c main_v4 = shapeCast S4x2048x1024 (gr c) shapeCasts_S8192x1024_S4x2048x1024 := by
  unfold atEnd
  simp only [hostOps1, List.flatten_cons, List.flatten_nil, List.append_nil, StableHlo.after_cons, StableHlo.after_nil]
  rw [StableHlo.reshape_result_ne' _ _ _ _ _ (by decide), StableHlo.reshape_result',
    Pipeline.withArrays_of_ne _ c _ _ main_v3_0 (by exact (by decide : ∀ w, Pipeline.arrRef spec0 w ≠ main_v3_0)),
    Pipeline.withR_of_mem _ _ _ _ main_v3_0 (by decide), Gv_out]
  rfl

/-- And the loss in the second. -/
theorem end_loss (c : Dev nD) : atEnd m gr c main_v5 = fun _ => lossAt m c pt := by
  unfold atEnd
  simp only [hostOps1, List.flatten_cons, List.flatten_nil, List.append_nil, StableHlo.after_cons, StableHlo.after_nil]
  rw [StableHlo.reshape_result', StableHlo.reshape_result_ne' _ _ _ _ _ (by decide),
    show Pipeline.withArrays spec0 c (Pipeline.withR (V0 m c) R0 c (Gv m gr c)) (fun w => (dats m gr 0 c).arrAt w cfg0.N)
        (Proc.devRef .tc main_v3_1) = fun _ => lossAt m c pt from
      (Pipeline.withArrays_arr spec0 launch0.win.arr_inj c _ (fun w => (dats m gr 0 c).arrAt w cfg0.N) 4).trans (arr_loss m gr c)]
  rfl

/-- They write neither an argument's array nor the launch's: such an array is as the launch found it. -/
theorem end_arg (c : Dev nD) (b : Ref sig .tc) (h4 : b ≠ main_v4) (h5 : b ≠ main_v5) (hb : b ∉ R0)
    (hw : ∀ w, Pipeline.arrRef spec0 w ≠ b) : atEnd m gr c b = V m c b := by
  unfold atEnd
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact ⟨StableHlo.devRef_ne_of_ne h4, StableHlo.devRef_ne_of_ne h5⟩)),
    Pipeline.withArrays_of_ne _ c _ _ b hw, Pipeline.withR_of_not_mem _ _ _ _ b hb]

/-- An input window's array ends as the launch finds it. -/
theorem arr_in (c : Dev nD) (w : Fin cfg0.W) (hw : (cfg0.win w).isOut = false) :
    (dats m gr 0 c).arrAt w cfg0.N = V m c (Pipeline.arrRef spec0 w) :=
  ((dats m gr 0 c).arrAt_in w hw _).trans (A_eq m gr c w)

variable (hG : ∀ c t, Holds (iblk m c 0 t) (iblk m c 1 t) (iblk m c 2 t) (iblk m c 3 t) (V m c main_v0) (gr c))

include hG in
/-- The program ends, nothing faults; its first result is the reshape of `gr`, its second the loss, its five arguments are as they
    were and every counter is zero. -/
theorem ends : θ_run defs (onTc (τ := τ) (main (F := F))) ⟨m, fun _ => 0, ρ⟩ (fun r => (∀ c : Dev nD,
      r.2.mem ((c.tc : Thread nD τ).loc main_v4) = shapeCast S4x2048x1024 (gr c) shapeCasts_S8192x1024_S4x2048x1024
      ∧ r.2.mem ((c.tc : Thread nD τ).loc main_v5) = (fun _ => lossAt m c pt)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨((h.1 c).2 main_v4 (Pipeline.mem_restRefs_of main_v4 (by decide) (by decide))).trans (end_out m gr c),
      ((h.1 c).2 main_v5 (Pipeline.mem_restRefs_of main_v5 (by decide) (by decide))).trans (end_loss m gr c),
      ((h.1 c).2 main_arg0 (Pipeline.mem_restRefs_of main_arg0 (by decide) (by decide))).trans
        ((end_arg m gr c main_arg0 (by decide) (by decide) (by decide) (by decide)).trans (V_main_arg0 m c)),
      ((h.1 c).1 0).trans ((arr_in m gr c 0 rfl).trans (V_main_arg1 m c)),
      ((h.1 c).2 main_arg2 (Pipeline.mem_restRefs_of main_arg2 (by decide) (by decide))).trans
        ((end_arg m gr c main_arg2 (by decide) (by decide) (by decide) (by decide)).trans (V_main_arg2 m c)),
      ((h.1 c).1 2).trans ((arr_in m gr c 2 rfl).trans (V_main_arg3 m c)),
      ((h.1 c).2 main_arg4 (Pipeline.mem_restRefs_of main_arg4 (by decide) (by decide))).trans
        ((end_arg m gr c main_arg4 (by decide) (by decide) (by decide) (by decide)).trans (V_main_arg4 m c))⟩,
    h.2⟩) (run_main m ρ gr hG)

end Cert.KernelIdeal.Hand

end
-- ==== Proof.Quantiser.lean ====
/- The quantiser over the extended reals, apart from any program: the bounded latents of a row, their levels, the row of the
   result and the squared distance from a latent to its level. A latent is always a real number, so a latent plus what
   separates it from its level is its level, and a sum of such distances is a real number. -/
module

public import Idealize.ShloMosaic.PureOps.Ideal

@[expose] public section

noncomputable section

open scoped BigOperators

namespace Cert.Quantiser

open Idealize.ShloMosaic

/-- The constants the programs spell, as the reals they denote. -/
theorem word_zero : Ideal.ofBits .f32 0x00000000#32 = 0 := by
  simp [Ideal.ofBits, Ideal.ieee]
theorem word_half : Ideal.ofBits .f32 0x40600000#32 = ((7 / 2 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_ten : Ideal.ofBits .f32 0x41200000#32 = ((10 : ℝ) : EReal) := by
  simp [Ideal.ofBits, Ideal.ieee, -EReal.coe_mul]; norm_num
theorem word_count : Ideal.ofBits .f32 0x49000000#32 = ((524288 : ℝ) : EReal) := by
  simp [Ideal.ofBits, Ideal.ieee, -EReal.coe_mul]; norm_num

/-- The level of a latent: the nearest integer, ties to even. -/
def level (z : EReal) : EReal := Ideal.liftRound Ideal.roundHalfEven z

/-- The bounded latent `k` of a row `x`: tanh of its projection, times 3.5. -/
def latent (x : Fin 1024 → EReal) (w : Fin 1024 → Fin 64 → EReal) (b : Fin 64 → EReal) (k : Fin 64) : EReal :=
  Ideal.tanh ((∑ e, x e * w e k) + b k) * ((7 / 2 : ℝ) : EReal)

/-- Entry `d` of the result's row, of the row's latents `z`: their levels, scaled back by 2/7, projected. -/
def outRow (z : Fin 64 → EReal) (w : Fin 64 → Fin 1024 → EReal) (b : Fin 1024 → EReal) (d : Fin 1024) : EReal :=
  (∑ k, level (z k) * ((2 / 7 : ℝ) : EReal) * w k d) + b d

/-- The squared distance from a latent to its level. -/
def gap (z : EReal) : EReal := (level z - z) * (level z - z)

theorem tanh_real (x : EReal) : ∃ r : ℝ, Ideal.tanh x = (r : EReal) := by
  induction x with
  | bot => exact ⟨-1, by simp⟩
  | top => exact ⟨1, by simp⟩
  | coe r => exact ⟨_, Ideal.tanh_coe r⟩

/-- A latent is a real number, whatever the row. -/
theorem latent_real (x : Fin 1024 → EReal) (w : Fin 1024 → Fin 64 → EReal) (b : Fin 64 → EReal) (k : Fin 64) :
    ∃ r : ℝ, latent x w b k = (r : EReal) := by
  obtain ⟨t, ht⟩ := tanh_real ((∑ e, x e * w e k) + b k)
  exact ⟨t * (7 / 2), by unfold latent; rw [ht, ← EReal.coe_mul]⟩

/-- A real latent plus the way from it to its level is its level. -/
theorem add_way (z : EReal) (h : ∃ r : ℝ, z = (r : EReal)) : z + (level z - z) = level z := by
  obtain ⟨r, rfl⟩ := h
  unfold level
  rw [Ideal.liftRound_coe, ← EReal.coe_sub, ← EReal.coe_add]
  congr 1; ring

/-- The distance squares alike in either direction. -/
theorem gap_back (z : EReal) (h : ∃ r : ℝ, z = (r : EReal)) : (z - level z) * (z - level z) = gap z := by
  obtain ⟨r, rfl⟩ := h
  unfold gap level
  rw [Ideal.liftRound_coe, ← EReal.coe_sub, ← EReal.coe_sub, ← EReal.coe_mul, ← EReal.coe_mul]
  congr 1; ring

theorem gap_real (z : EReal) (h : ∃ r : ℝ, z = (r : EReal)) : ∃ r : ℝ, gap z = (r : EReal) := by
  obtain ⟨r, rfl⟩ := h
  unfold gap level
  rw [Ideal.liftRound_coe, ← EReal.coe_sub, ← EReal.coe_mul]
  exact ⟨_, rfl⟩

/-- A quotient by 3.5 is a product by 2/7. -/
theorem div_half (z : EReal) : Ideal.div z ((7 / 2 : ℝ) : EReal) = z * ((2 / 7 : ℝ) : EReal) := by
  rw [Ideal.div_coe (by norm_num)]
  congr 2; norm_num

/-- A finite sum of reals is a real. -/
theorem sum_real {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, ← EReal.coe_add]⟩

/-- A quarter of the mean plus a tenth of the mean is the sum times the one weight. -/
theorem weigh (s : EReal) (h : ∃ r : ℝ, s = (r : EReal)) :
    ((1 / 4 : ℝ) : EReal) * Ideal.div s ((524288 : ℝ) : EReal) + Ideal.div (Ideal.div s ((524288 : ℝ) : EReal)) ((10 : ℝ) : EReal)
      = ((7 / 10485760 : ℝ) : EReal) * s := by
  obtain ⟨r, rfl⟩ := h
  rw [Ideal.div_coe (by norm_num), Ideal.div_coe (by norm_num), ← EReal.coe_mul, ← EReal.coe_mul, ← EReal.coe_mul, ← EReal.coe_mul,
    ← EReal.coe_add]
  congr 1; ring

/-- The sum over 8192 rows, cut where the kernel cuts it: 512 rows, seven times 1024, and 512. -/
theorem sum_cut (g : ℕ → EReal) :
    (0 + (∑ i : Fin 512, g (0 + i)) + (∑ i : Fin 1024, g (512 + i)) + (∑ i : Fin 1024, g (1536 + i))
      + (∑ i : Fin 1024, g (2560 + i)) + (∑ i : Fin 1024, g (3584 + i)) + (∑ i : Fin 1024, g (4608 + i))
      + (∑ i : Fin 1024, g (5632 + i)) + (∑ i : Fin 1024, g (6656 + i)) + (∑ i : Fin 512, g (7680 + i)))
      = ∑ i : Fin 8192, g i := by
  have e : ∀ o n : ℕ, (∑ i : Fin n, g (o + i)) = ∑ i ∈ Finset.range n, g (o + i) := fun o n =>
    Fin.sum_univ_eq_sum_range (fun i => g (o + i)) n
  rw [Fin.sum_univ_eq_sum_range g 8192]
  simp only [e]
  have h : ∀ n k : ℕ, (∑ i ∈ Finset.range (n + k), g i) = (∑ i ∈ Finset.range n, g i) + ∑ i ∈ Finset.range k, g (n + i) :=
    fun n k => Finset.sum_range_add g n k
  rw [show (8192 : ℕ) = 7680 + 512 from rfl, h, show (7680 : ℕ) = 6656 + 1024 from rfl, h, show (6656 : ℕ) = 5632 + 1024 from rfl, h,
    show (5632 : ℕ) = 4608 + 1024 from rfl, h, show (4608 : ℕ) = 3584 + 1024 from rfl, h, show (3584 : ℕ) = 2560 + 1024 from rfl, h,
    show (2560 : ℕ) = 1536 + 1024 from rfl, h, show (1536 : ℕ) = 512 + 1024 from rfl, h]
  simp only [Nat.zero_add, zero_add]

/-- The sum over 4 stacks of 2048 rows is the sum over the 8192 rows laid end to end. -/
theorem sum_stack (g : ℕ → EReal) : (∑ a : Fin 4, ∑ r : Fin 2048, g (a * 2048 + r)) = ∑ i : Fin 8192, g i := by
  rw [← Fintype.sum_prod_type' (f := fun (a : Fin 4) (r : Fin 2048) => g (a * 2048 + r))]
  refine Fintype.sum_equiv (finProdFinEquiv (m := 4) (n := 2048)) _ _ fun p => ?_
  show g (p.1 * 2048 + p.2) = g (p.2 + 2048 * p.1)
  congr 1; omega

end Cert.Quantiser

end
-- ==== Proof.ChunkValue.lean ====
/- What the kernel computes of a chunk, over the extended reals and at an index: its latents, its rows and the sum of its distances
   are the quantiser's of the chunk's rows. -/
module

public import proofs.«01_k».proof.Proof.Chunk
public import proofs.«01_k».proof.Proof.Quantiser
public import Idealize.ShloMosaic.Lib.Pointwise

@[expose] public section

set_option maxRecDepth 16384

noncomputable section

open scoped BigOperators

namespace Cert.KernelIdeal.Hand

open Cert.KernelIdeal Cert.KernelIdeal.Gen Cert.Quantiser
open Idealize.ShloMosaic Idealize.ShloMosaic.TcCoe

theorem named_half : (Named.named κ "inv_half" 0x3E924925#32 : Ideal .f32) = ((2 / 7 : ℝ) : EReal) :=
  IdealRules.named_const.ideal_named_scalar _ _ _ _ rfl
theorem named_weight : (Named.named κ "loss_weight" 0x35333333#32 : Ideal .f32) = ((7 / 10485760 : ℝ) : EReal) :=
  IdealRules.named_const.ideal_named_scalar _ _ _ _ rfl

/-- A latent of 512 rows is the quantiser's latent of its row. -/
theorem latents512_apply (w1 : Vec Ideal S1024x64 .f32) (w2 : Vec Ideal S1x64 .f32) (b : FVec Ideal S512x1024 .f32)
    (r : Fin 512) (k : Fin 64) :
    latents512 (F := Ideal) w1 w2 b (ix2 r k) = latent (fun e => b (ix2 r e)) (fun e k => w1 (ix2 e k)) (fun k => w2 (ix2 0 k)) k := by
  unfold latents512 latent
  pointwise
  rw [word_half]

/-- A row of 512 rows of the result is the quantiser's of its latents. -/
theorem rows512_apply (w3 : Vec Ideal S64x1024 .f32) (w4 : Vec Ideal S1x1024 .f32) (z : FVec Ideal S512x64 .f32)
    (r : Fin 512) (d : Fin 1024) :
    rows512 (F := Ideal) w3 w4 z (ix2 r d) = outRow (fun k => z (ix2 r k)) (fun k d => w3 (ix2 k d)) (fun d => w4 (ix2 0 d)) d := by
  unfold rows512 outRow level
  rw [named_half]
  pointwise

/-- The distances of 512 rows are summed over all of them. -/
theorem dist512_eq (z : FVec Ideal S512x64 .f32) :
    dist512 (F := Ideal) z = ∑ r : Fin 512, ∑ k : Fin 64, gap (z (ix2 r k)) := by
  unfold dist512 gap level
  pointwise

/-- Row `r` of the 512 rows from row `o` is row `o + r`. -/
theorem piece512_emb (o : ℕ) (inb) (r : Fin 512) (e : Fin 1024) (h : o + r.val < 8192) :
    (piece512 o inb).emb (ix2 r e) = ix2 ⟨o + r.val, h⟩ e := by
  funext a
  match a with
  | ⟨0, _⟩ => exact Fin.ext (by show o + 1 * r.val = o + r.val; omega)
  | ⟨1, _⟩ => exact Fin.ext (by show 0 + 1 * e.val = e.val; omega)

theorem piece512_lt (o : ℕ) (inb : ∀ a, (![o, 0] : Fin 2 → ℕ) a + S512x1024.size a ≤ S8192x1024.size a) (r : Fin 512) :
    o + r.val < 8192 := by
  have h : o + 512 ≤ 8192 := inb 0
  have := r.isLt
  omega

/-- A latent of 1024 rows is the quantiser's latent of its row. -/
theorem latents1024_apply (w1 : Vec Ideal S1024x64 .f32) (w2 : Vec Ideal S1x64 .f32) (b : FVec Ideal S1024x1024 .f32)
    (r : Fin 1024) (k : Fin 64) :
    latents1024 (F := Ideal) w1 w2 b (ix2 r k) = latent (fun e => b (ix2 r e)) (fun e k => w1 (ix2 e k)) (fun k => w2 (ix2 0 k)) k := by
  unfold latents1024 latent
  pointwise
  rw [word_half]

/-- A row of 1024 rows of the result is the quantiser's of its latents. -/
theorem rows1024_apply (w3 : Vec Ideal S64x1024 .f32) (w4 : Vec Ideal S1x1024 .f32) (z : FVec Ideal S1024x64 .f32)
    (r : Fin 1024) (d : Fin 1024) :
    rows1024 (F := Ideal) w3 w4 z (ix2 r d) = outRow (fun k => z (ix2 r k)) (fun k d => w3 (ix2 k d)) (fun d => w4 (ix2 0 d)) d := by
  unfold rows1024 outRow level
  rw [named_half]
  pointwise

/-- The distances of 1024 rows are summed over all of them. -/
theorem dist1024_eq (z : FVec Ideal S1024x64 .f32) :
    dist1024 (F := Ideal) z = ∑ r : Fin 1024, ∑ k : Fin 64, gap (z (ix2 r k)) := by
  unfold dist1024 gap level
  pointwise

/-- Row `r` of the 1024 rows from row `o` is row `o + r`. -/
theorem piece1024_emb (o : ℕ) (inb) (r : Fin 1024) (e : Fin 1024) (h : o + r.val < 8192) :
    (piece1024 o inb).emb (ix2 r e) = ix2 ⟨o + r.val, h⟩ e := by
  funext a
  match a with
  | ⟨0, _⟩ => exact Fin.ext (by show o + 1 * r.val = o + r.val; omega)
  | ⟨1, _⟩ => exact Fin.ext (by show 0 + 1 * e.val = e.val; omega)

theorem piece1024_lt (o : ℕ) (inb : ∀ a, (![o, 0] : Fin 2 → ℕ) a + S1024x1024.size a ≤ S8192x1024.size a) (r : Fin 1024) :
    o + r.val < 8192 := by
  have h : o + 1024 ≤ 8192 := inb 0
  have := r.isLt
  omega

/-- The latents of row `n` of `x`. -/
def latOf (w1 : Vec Ideal S1024x64 .f32) (w2 : Vec Ideal S1x64 .f32) (x : Vec Ideal S8192x1024 .f32) (n : Fin 8192) (k : Fin 64) : EReal :=
  latent (fun e => x (ix2 n e)) (fun e k => w1 (ix2 e k)) (fun k => w2 (ix2 0 k)) k

/-- The whole result: every row the quantiser's of its row of `x`. -/
def outOf (w1 : Vec Ideal S1024x64 .f32) (w2 : Vec Ideal S1x64 .f32) (w3 : Vec Ideal S64x1024 .f32) (w4 : Vec Ideal S1x1024 .f32)
    (x : Vec Ideal S8192x1024 .f32) : Vec Ideal S8192x1024 .f32 := fun i =>
  outRow (latOf w1 w2 x (i 0)) (fun k d => w3 (ix2 k d)) (fun d => w4 (ix2 0 d)) (i 1)

/-- The squared distances of row `n` of `x`, summed. -/
def gapOf (w1 : Vec Ideal S1024x64 .f32) (w2 : Vec Ideal S1x64 .f32) (x : Vec Ideal S8192x1024 .f32) (n : ℕ) : EReal :=
  if h : n < 8192 then ∑ k : Fin 64, gap (latOf w1 w2 x ⟨n, h⟩ k) else 0

theorem lat512_apply (w1 : Vec Ideal S1024x64 .f32) (w2 : Vec Ideal S1x64 .f32) (x : Vec Ideal S8192x1024 .f32) (o : ℕ) (inb)
    (r : Fin 512) (k : Fin 64) : lat512 (F := Ideal) w1 w2 x o inb (ix2 r k) = latOf w1 w2 x ⟨o + r.val, piece512_lt o inb r⟩ k := by
  unfold latOf lat512
  rw [latents512_apply]
  simp only [piece512_emb o inb r _ (piece512_lt o inb r)]

theorem dist512_lat (w1 : Vec Ideal S1024x64 .f32) (w2 : Vec Ideal S1x64 .f32) (x : Vec Ideal S8192x1024 .f32) (o : ℕ) (inb) :
    dist512 (F := Ideal) (lat512 w1 w2 x o inb) = ∑ r : Fin 512, gapOf w1 w2 x (o + r) := by
  rw [dist512_eq]
  refine Finset.sum_congr rfl fun r _ => ?_
  unfold gapOf
  rw [dif_pos (piece512_lt o inb r)]
  exact Finset.sum_congr rfl fun k _ => by rw [lat512_apply]

theorem rows512_lat (w1 : Vec Ideal S1024x64 .f32) (w2 : Vec Ideal S1x64 .f32) (w3 : Vec Ideal S64x1024 .f32) (w4 : Vec Ideal S1x1024 .f32)
    (x : Vec Ideal S8192x1024 .f32) (o : ℕ) (inb) (j : S512x1024.Idx) :
    rows512 (F := Ideal) w3 w4 (lat512 w1 w2 x o inb) j = outOf w1 w2 w3 w4 x ((piece512 o inb).emb j) := by
  obtain ⟨r, d, rfl⟩ : ∃ (r : Fin 512) (d : Fin 1024), j = ix2 r d := ⟨j 0, j 1, eq_ix2 j⟩
  rw [rows512_apply, piece512_emb o inb r d (piece512_lt o inb r)]
  simp only [lat512_apply]
  rfl

theorem lat1024_apply (w1 : Vec Ideal S1024x64 .f32) (w2 : Vec Ideal S1x64 .f32) (x : Vec Ideal S8192x1024 .f32) (o : ℕ) (inb)
    (r : Fin 1024) (k : Fin 64) : lat1024 (F := Ideal) w1 w2 x o inb (ix2 r k) = latOf w1 w2 x ⟨o + r.val, piece1024_lt o inb r⟩ k := by
  unfold latOf lat1024
  rw [latents1024_apply]
  simp only [piece1024_emb o inb r _ (piece1024_lt o inb r)]

theorem dist1024_lat (w1 : Vec Ideal S1024x64 .f32) (w2 : Vec Ideal S1x64 .f32) (x : Vec Ideal S8192x1024 .f32) (o : ℕ) (inb) :
    dist1024 (F := Ideal) (lat1024 w1 w2 x o inb) = ∑ r : Fin 1024, gapOf w1 w2 x (o + r) := by
  rw [dist1024_eq]
  refine Finset.sum_congr rfl fun r _ => ?_
  unfold gapOf
  rw [dif_pos (piece1024_lt o inb r)]
  exact Finset.sum_congr rfl fun k _ => by rw [lat1024_apply]

theorem rows1024_lat (w1 : Vec Ideal S1024x64 .f32) (w2 : Vec Ideal S1x64 .f32) (w3 : Vec Ideal S64x1024 .f32) (w4 : Vec Ideal S1x1024 .f32)
    (x : Vec Ideal S8192x1024 .f32) (o : ℕ) (inb) (j : S1024x1024.Idx) :
    rows1024 (F := Ideal) w3 w4 (lat1024 w1 w2 x o inb) j = outOf w1 w2 w3 w4 x ((piece1024 o inb).emb j) := by
  obtain ⟨r, d, rfl⟩ : ∃ (r : Fin 1024) (d : Fin 1024), j = ix2 r d := ⟨j 0, j 1, eq_ix2 j⟩
  rw [rows1024_apply, piece1024_emb o inb r d (piece1024_lt o inb r)]
  simp only [lat1024_apply]
  rfl

/-- The quantiser's rows are what the kernel computes of its chunks. -/
theorem holds (w1 : Vec Ideal S1024x64 .f32) (w2 : Vec Ideal S1x64 .f32) (w3 : Vec Ideal S64x1024 .f32) (w4 : Vec Ideal S1x1024 .f32)
    (x : Vec Ideal S8192x1024 .f32) : Holds (F := Ideal) w1 w2 w3 w4 x (outOf w1 w2 w3 w4 x) :=
  ⟨rows512_lat w1 w2 w3 w4 x, rows1024_lat w1 w2 w3 w4 x⟩

/-- The kernel's loss is the weighted sum over all 8192 rows. -/
theorem lossOf_eq (w1 : Vec Ideal S1024x64 .f32) (w2 : Vec Ideal S1x64 .f32) (x : Vec Ideal S8192x1024 .f32) :
    lossOf (F := Ideal) w1 w2 x = ((7 / 10485760 : ℝ) : EReal) * ∑ n : Fin 8192, gapOf w1 w2 x n := by
  unfold lossOf
  rw [named_weight, dist512_lat, dist1024_lat, dist1024_lat, dist1024_lat, dist1024_lat, dist1024_lat, dist1024_lat, dist1024_lat,
    dist512_lat, ← sum_cut, ← word_zero]
  rfl

end Cert.KernelIdeal.Hand

end
-- ==== Proof.Answer.lean ====
/- The two results as functions of the five arguments, over the extended reals: every row the quantiser's, and the loss the
   weighted sum of all the squared distances. -/
module

public import proofs.«01_k».proof.Proof.Quantiser
public import Idealize.ShloMosaic.Lib.Pointwise

@[expose] public section

set_option maxRecDepth 16384

noncomputable section

open scoped BigOperators

namespace Cert.Quantiser

open Idealize.ShloMosaic

/-- The arguments and the results: the stacks of rows in and out, the two matrices, the two biases. -/
abbrev Rows : Type := Vec Ideal ⟨3, ![4, 2048, 1024]⟩ .f32
abbrev MatIn : Type := Vec Ideal ⟨2, ![1024, 64]⟩ .f32
abbrev BiasIn : Type := Vec Ideal ⟨1, ![64]⟩ .f32
abbrev MatOut : Type := Vec Ideal ⟨2, ![64, 1024]⟩ .f32
abbrev BiasOut : Type := Vec Ideal ⟨1, ![1024]⟩ .f32

/-- Latent `k` of row `r` of stack `a`. -/
def latAt (x : Rows) (w : MatIn) (b : BiasIn) (a : Fin 4) (r : Fin 2048) (k : Fin 64) : EReal :=
  latent (fun e => x (ix3 a r e)) (fun e k => w (ix2 e k)) (fun k => b (ix1 k)) k

/-- The first result. -/
def answer (x : Rows) (w : MatIn) (b : BiasIn) (w' : MatOut) (b' : BiasOut) : Rows := fun i =>
  outRow (latAt x w b (i 0) (i 1)) (fun k d => w' (ix2 k d)) (fun d => b' (ix1 d)) (i 2)

/-- The squared distances, summed over everything. -/
def gaps (x : Rows) (w : MatIn) (b : BiasIn) : EReal := ∑ a : Fin 4, ∑ r : Fin 2048, ∑ k : Fin 64, gap (latAt x w b a r k)

theorem latAt_real (x : Rows) (w : MatIn) (b : BiasIn) (a : Fin 4) (r : Fin 2048) (k : Fin 64) : ∃ q : ℝ, latAt x w b a r k = (q : EReal) :=
  latent_real _ _ _ _

theorem gaps_real (x : Rows) (w : MatIn) (b : BiasIn) : ∃ q : ℝ, gaps x w b = (q : EReal) :=
  sum_real _ _ fun a => sum_real _ _ fun r => sum_real _ _ fun k => gap_real _ (latAt_real x w b a r k)

end Cert.Quantiser

end
-- ==== Proof.IdealValue.lean ====
/- The printed program's two results over the extended reals, as the quantiser's of its five arguments; and that it ends with its
   arguments as they were and every counter at zero. -/
module

public import proofs.«01_k».proof.Proof.IdealEnd
public import proofs.«01_k».proof.Proof.ChunkValue
public import proofs.«01_k».proof.Proof.Answer

@[expose] public section

set_option maxRecDepth 16384

noncomputable section

open scoped BigOperators

namespace Cert.KernelIdeal.Hand

open Cert.KernelIdeal Cert.KernelIdeal.Gen Cert.Quantiser
open Idealize.ShloMosaic Idealize.ShloMosaic.TcCoe Idealize.ShloMosaic.Tactic
open Idealize.SL.Sem

variable (m : (ℓ : Loc nD τ sig) → Buf (Elt Ideal) ℓ) (ρ : Dev nD → PrngReg)

/-- The launch finds the rows, and the two biases, reshaped. -/
theorem V_rows (c : Dev nD) : V m c main_v0 = shapeCast S8192x1024 (m ((c : Thread nD τ).loc main_arg0)) shapeCasts_S4x2048x1024_S8192x1024 := by
  unfold V V0
  simp only [hostOps0, List.flatten_cons, List.flatten_nil, List.append_nil, StableHlo.after_cons, StableHlo.after_nil]
  rw [StableHlo.reshape_result_ne' _ _ _ _ _ (by decide), StableHlo.reshape_result_ne' _ _ _ _ _ (by decide), StableHlo.reshape_result']
  rfl
theorem V_bias_in (c : Dev nD) : V m c main_v1 = shapeCast S1x64 (m ((c : Thread nD τ).loc main_arg2)) shapeCasts_S64_S1x64 := by
  unfold V V0
  simp only [hostOps0, List.flatten_cons, List.flatten_nil, List.append_nil, StableHlo.after_cons, StableHlo.after_nil]
  rw [StableHlo.reshape_result_ne' _ _ _ _ _ (by decide), StableHlo.reshape_result', StableHlo.reshape_result_ne' _ _ _ _ _ (by decide)]
  rfl
theorem V_bias_out (c : Dev nD) : V m c main_v2 = shapeCast S1x1024 (m ((c : Thread nD τ).loc main_arg4)) shapeCasts_S1024_S1x1024 := by
  unfold V V0
  simp only [hostOps0, List.flatten_cons, List.flatten_nil, List.append_nil, StableHlo.after_cons, StableHlo.after_nil]
  rw [StableHlo.reshape_result', StableHlo.reshape_result_ne' _ _ _ _ _ (by decide), StableHlo.reshape_result_ne' _ _ _ _ _ (by decide)]
  rfl

/-- Each input window's block is its whole array. -/
theorem blk0 (c : Dev nD) (t : Fin cfg0.N) : iblk m c 0 t = V m c main_arg1 := by
  funext j
  unfold iblk
  rw [View.read_apply]
  show V m c main_arg1 _ = V m c main_arg1 _
  congr 1
  funext a
  apply Fin.ext
  match a with
  | ⟨0, _⟩ => show 0 + 1 * (j 0).val = (j 0).val; omega
  | ⟨1, _⟩ => show 0 + 1 * (j 1).val = (j 1).val; omega

theorem blk1 (c : Dev nD) (t : Fin cfg0.N) : iblk m c 1 t = V m c main_v1 := by
  funext j
  unfold iblk
  rw [View.read_apply]
  show V m c main_v1 _ = V m c main_v1 _
  congr 1
  funext a
  apply Fin.ext
  match a with
  | ⟨0, _⟩ => show 0 + 1 * (j 0).val = (j 0).val; omega
  | ⟨1, _⟩ => show 0 + 1 * (j 1).val = (j 1).val; omega

theorem blk2 (c : Dev nD) (t : Fin cfg0.N) : iblk m c 2 t = V m c main_arg3 := by
  funext j
  unfold iblk
  rw [View.read_apply]
  show V m c main_arg3 _ = V m c main_arg3 _
  congr 1
  funext a
  apply Fin.ext
  match a with
  | ⟨0, _⟩ => show 0 + 1 * (j 0).val = (j 0).val; omega
  | ⟨1, _⟩ => show 0 + 1 * (j 1).val = (j 1).val; omega

theorem blk3 (c : Dev nD) (t : Fin cfg0.N) : iblk m c 3 t = V m c main_v2 := by
  funext j
  unfold iblk
  rw [View.read_apply]
  show V m c main_v2 _ = V m c main_v2 _
  congr 1
  funext a
  apply Fin.ext
  match a with
  | ⟨0, _⟩ => show 0 + 1 * (j 0).val = (j 0).val; omega
  | ⟨1, _⟩ => show 0 + 1 * (j 1).val = (j 1).val; omega

section Reshaped

variable (x : Rows) (w : MatIn) (b : BiasIn) (w' : MatOut) (b' : BiasOut)

/-- The latents of a row of the reshaped rows are the latents of that row in its stack. -/
theorem latOf_reshaped (n : Fin 8192) (k : Fin 64) :
    latOf w (shapeCast S1x64 b shapeCasts_S64_S1x64) (shapeCast S8192x1024 x shapeCasts_S4x2048x1024_S8192x1024) n k
      = latAt x w b ⟨n.val / 2048, by have := n.isLt; omega⟩ ⟨n.val % 2048, by omega⟩ k := by
  unfold latOf latAt
  pointwise

/-- Row `r` of stack `a` is row `2048 a + r` of the reshaped rows. -/
theorem latOf_row (a : Fin 4) (r : Fin 2048) (h : a.val * 2048 + r.val < 8192) (k : Fin 64) :
    latOf w (shapeCast S1x64 b shapeCasts_S64_S1x64) (shapeCast S8192x1024 x shapeCasts_S4x2048x1024_S8192x1024) ⟨a.val * 2048 + r.val, h⟩ k
      = latAt x w b a r k := by
  rw [latOf_reshaped]
  congr 1 <;> apply Fin.ext
  · show (a.val * 2048 + r.val) / 2048 = a.val; have := r.isLt; omega
  · show (a.val * 2048 + r.val) % 2048 = r.val; have := r.isLt; omega

/-- The rows the kernel leaves, reshaped into stacks, are the answer. -/
theorem out_reshaped :
    shapeCast S4x2048x1024 (outOf w (shapeCast S1x64 b shapeCasts_S64_S1x64) w' (shapeCast S1x1024 b' shapeCasts_S1024_S1x1024)
        (shapeCast S8192x1024 x shapeCasts_S4x2048x1024_S8192x1024)) shapeCasts_S8192x1024_S4x2048x1024
      = answer x w b w' b' := by
  funext i
  obtain ⟨a, r, d, rfl⟩ : ∃ (a : Fin 4) (r : Fin 2048) (d : Fin 1024), i = ix3 a r d := ⟨i 0, i 1, i 2, eq_ix3 i⟩
  unfold answer
  pointwise
  have h : a.val * 2048 + r.val < 8192 := by have := a.isLt; have := r.isLt; omega
  show outOf w _ w' _ _ (ix2 ⟨a.val * 2048 + r.val, h⟩ d) = _
  unfold outOf outRow
  simp only [ix2_0, ix2_1]
  rw [Finset.sum_congr rfl fun k _ => by rw [latOf_row]]
  pointwise

/-- The distances the kernel sums over the rows are those summed over the stacks. -/
theorem gaps_reshaped :
    (∑ n : Fin 8192, gapOf w (shapeCast S1x64 b shapeCasts_S64_S1x64) (shapeCast S8192x1024 x shapeCasts_S4x2048x1024_S8192x1024) n)
      = gaps x w b := by
  rw [← sum_stack]
  unfold gaps
  refine Finset.sum_congr rfl fun a _ => Finset.sum_congr rfl fun r _ => ?_
  have h : a.val * 2048 + r.val < 8192 := by have := a.isLt; have := r.isLt; omega
  unfold gapOf
  rw [dif_pos h]
  exact Finset.sum_congr rfl fun k _ => by rw [latOf_row]

end Reshaped

/-- The program ends, nothing faults; its results are the quantiser's, its five arguments are as they were and every counter is zero. -/
theorem ends_answer : θ_run defs (onTc (τ := τ) (main (F := Ideal))) ⟨m, fun _ => 0, ρ⟩ (fun r => (∀ c : Dev nD,
      r.2.mem ((c.tc : Thread nD τ).loc main_v4) = answer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v5) = (fun _ => ((7 / 10485760 : ℝ) : EReal) *
          gaps (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨(h.1 c).1.trans ?_, (h.1 c).2.1.trans ?_, (h.1 c).2.2⟩, h.2⟩)
    (ends m ρ (fun c => outOf (V m c main_arg1) (V m c main_v1) (V m c main_arg3) (V m c main_v2) (V m c main_v0)) fun c t => by
      rw [blk0, blk1, blk2, blk3]
      exact holds _ _ _ _ _)
  · rw [V_main_arg1, V_main_arg3, V_rows, V_bias_in, V_bias_out]
    exact out_reshaped _ _ _ _ _
  · funext _
    show lossOf (iblk m c 0 pt) (iblk m c 1 pt) (V m c main_v0) = _
    rw [blk0, blk1, lossOf_eq, V_main_arg1, V_rows, V_bias_in]
    exact congrArg _ (gaps_reshaped _ _ _)

end Cert.KernelIdeal.Hand

end
-- ==== Proof.ReferenceValue.lean ====
/- The reference's two results over the extended reals are the quantiser's of its five arguments. -/
module

public import proofs.«01_k».proof.Proof.Answer
public import proofs.«01_k».proof.Proof.Gen.ReferenceIdeal
public import proofs.«01_k».proof.Proof.Gen.ReferenceIdeal.Run
public import Idealize.ShloMosaic.Lib.Quiescent

@[expose] public section

set_option maxRecDepth 16384

noncomputable section

open scoped BigOperators

namespace Cert.ReferenceIdeal.Hand

open Cert.ReferenceIdeal Cert.ReferenceIdeal.Gen Cert.Quantiser
open Idealize.ShloMosaic Idealize.ShloMosaic.TcCoe Idealize.SL.Sem

variable (x : FVec Ideal S4x2048x1024 .f32) (w : FVec Ideal S1024x64 .f32) (b : FVec Ideal S64 .f32)
  (w' : FVec Ideal S64x1024 .f32) (b' : FVec Ideal S1024 .f32)

/-- The bounded latents as the reference computes them. -/
def lat : FVec Ideal S4x2048x64 .f32 :=
  mulf (Host.tanh (addf (Host.dotGeneral dot_S4x2048x1024_S1024x64_S4x2048x64_2_0_01_1_n_n none x w)
    (broadcastInDim S4x2048x64 ![0, 1, 2] bcast_S1x1x64_S4x2048x64_0_1_2 (broadcastInDim S1x1x64 ![2] bcast_S64_S1x1x64_2 b))))
    (broadcastInDim S4x2048x64 ![] bcast_S_S4x2048x64 (constant S_ .f32 0x40600000#32))

/-- The levels, written as the latents plus the way to them. -/
def lev (z : FVec Ideal S4x2048x64 .f32) : FVec Ideal S4x2048x64 .f32 := addf z (subf (Host.roundeven z) z)

/-- The first result, of the latents. -/
def out (z : FVec Ideal S4x2048x64 .f32) : FVec Ideal S4x2048x1024 .f32 :=
  addf (Host.dotGeneral dot_S4x2048x64_S64x1024_S4x2048x1024_2_0_01_1_n_n none
      (Host.divf (lev z) (broadcastInDim S4x2048x64 ![] bcast_S_S4x2048x64 (constant S_ .f32 0x40600000#32))) w')
    (broadcastInDim S4x2048x1024 ![0, 1, 2] bcast_S1x1x1024_S4x2048x1024_0_1_2 (broadcastInDim S1x1x1024 ![2] bcast_S1024_S1x1x1024_2 b'))

/-- A mean of squares. -/
def mean (d : FVec Ideal S4x2048x64 .f32) : FVec Ideal S_ .f32 :=
  Host.divf (Host.reduceAdd (mulf d d) (constant S_ .f32 0x00000000#32) reducesTo_S4x2048x64_S_d0_1_2 h_S_) (constant S_ .f32 0x49000000#32)

/-- The loss, of the latents. -/
def loss (z : FVec Ideal S4x2048x64 .f32) : FVec Ideal S_ .f32 :=
  addf (mulf (constant S_ .f32 0x3E800000#32) (mean (subf z (lev z))))
    (Host.divf (mean (subf (lev z) z)) (constant S_ .f32 0x41200000#32))

theorem lat_apply (a : Fin 4) (r : Fin 2048) (k : Fin 64) : lat x w b (ix3 a r k) = latAt x w b a r k := by
  unfold lat latAt latent
  pointwise
  rw [word_half]

/-- At a real latent the level is the rounded latent. -/
theorem lev_apply (z : FVec Ideal S4x2048x64 .f32) (i : S4x2048x64.Idx) (h : ∃ q : ℝ, z i = (q : EReal)) : lev z i = level (z i) :=
  add_way (z i) h

theorem lev_lat (a : Fin 4) (r : Fin 2048) (k : Fin 64) : lev (lat x w b) (ix3 a r k) = level (latAt x w b a r k) := by
  rw [lev_apply _ _ (by rw [lat_apply]; exact latAt_real x w b a r k), lat_apply]

theorem out_eq : out w' b' (lat x w b) = answer x w b w' b' := by
  funext i
  obtain ⟨a, r, d, rfl⟩ : ∃ (a : Fin 4) (r : Fin 2048) (d : Fin 1024), i = ix3 a r d := ⟨i 0, i 1, i 2, eq_ix3 i⟩
  unfold out answer outRow
  pointwise
  simp only [lev_lat, word_half, div_half]

/-- A mean of squares, the squares given. -/
theorem mean_eq (d : FVec Ideal S4x2048x64 .f32) (i : S_.Idx) (g : Fin 4 → Fin 2048 → Fin 64 → EReal)
    (h : ∀ a r k, d (ix3 a r k) * d (ix3 a r k) = g a r k) :
    mean d i = Ideal.div (∑ a : Fin 4, ∑ r : Fin 2048, ∑ k : Fin 64, g a r k) ((524288 : ℝ) : EReal) := by
  unfold mean
  pointwise
  simp only [h, word_count]

theorem loss_eq : loss (lat x w b) = fun _ => ((7 / 10485760 : ℝ) : EReal) * gaps x w b := by
  funext i
  have e₁ : mean (subf (lat x w b) (lev (lat x w b))) i = Ideal.div (gaps x w b) ((524288 : ℝ) : EReal) :=
    mean_eq _ i (fun a r k => gap (latAt x w b a r k)) fun a r k => by
      pointwise
      rw [lev_lat, lat_apply]
      exact gap_back _ (latAt_real x w b a r k)
  have e₂ : mean (subf (lev (lat x w b)) (lat x w b)) i = Ideal.div (gaps x w b) ((524288 : ℝ) : EReal) :=
    mean_eq _ i (fun a r k => gap (latAt x w b a r k)) fun a r k => by
      pointwise
      rw [lev_lat, lat_apply]
      rfl
  unfold loss
  pointwise
  rw [e₁, e₂, word_quarter, word_ten]
  exact weigh _ (gaps_real x w b)

/-- The reference ends, nothing faults; its results are the quantiser's, its five arguments are as they were and every counter is zero. -/
theorem ends (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v23) = answer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v26) = (fun _ => ((7 / 10485760 : ℝ) : EReal) *
          gaps (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h c).1.trans (out_eq _ _ _ _ _), (h c).2.1.trans (loss_eq _ _ _), (h c).2.2⟩,
    sem_eq_zero_of_no_sems (by decide) r.2⟩) (Cert.ReferenceIdeal.Value.run m ρ)

end Cert.ReferenceIdeal.Hand

end
-- ==== Proof.lean ====
/- The certificate: the five claims, assembled. -/
module

public import proofs.«01_k».proof.Defs
public import proofs.«01_k».proof.Proof.BitsFrame
public import proofs.«01_k».proof.Proof.IdealValue
public import proofs.«01_k».proof.Proof.ReferenceValue

@[expose] public section

noncomputable section

open Idealize.ShloMosaic Idealize.SL.Sem

namespace Cert.Proof

/-- The kernel ends without a fault, its arguments as they were, every semaphore at zero. -/
theorem kernel_frame : Cert.quiescent_Kernel (hKernel := Cert.Kernel.Gen.facts) :=
  fun m g _ => Cert.Kernel.Hand.frame m g

/-- So does its idealization. -/
theorem ideal_frame : Cert.quiescent_KernelIdeal (hKernelIdeal := Cert.KernelIdeal.Gen.facts) :=
  fun m g _ => (θ_run _ _ _).mono (fun _ h => ⟨fun c => (h.1 c).2.2, h.2⟩) (Cert.KernelIdeal.Hand.ends_answer m g)

/-- So does the reference's. -/
theorem reference_frame : Cert.quiescent_ReferenceIdeal (hReferenceIdeal := Cert.ReferenceIdeal.Gen.facts) :=
  fun m g _ => (θ_run _ _ _).mono (fun _ h => ⟨fun c => (h.1 c).2.2, h.2⟩) (Cert.ReferenceIdeal.Hand.ends m g)

/-- Each of the two named constants is what its word rounds. -/
theorem named : Cert.preserves_Kernel_KernelIdeal :=
  ⟨IdealRules.named_const.statement Cert.KernelIdeal.κ "inv_half" .f32 0x3E924925#32 ((2 / 7 : ℝ) : EReal) rfl,
    IdealRules.named_const.statement Cert.KernelIdeal.κ "loss_weight" .f32 0x35333333#32 ((7 / 10485760 : ℝ) : EReal) rfl⟩

/-- Over the extended reals the kernel's two results are the reference's. -/
theorem same : Cert.algebraic_KernelIdeal_ReferenceIdeal (hKernelIdeal := Cert.KernelIdeal.Gen.facts)
    (hReferenceIdeal := Cert.ReferenceIdeal.Gen.facts) := by
  intro m g m' g' _ e
  refine ⟨_, _, (θ_run _ _ _).mono (fun _ h c => h.1 c) (Cert.KernelIdeal.Hand.ends_answer m g),
    (θ_run _ _ _).mono (fun _ h c => ⟨(h.1 c).1.trans ?_, (h.1 c).2.1.trans ?_, (h.1 c).2.2⟩) (Cert.ReferenceIdeal.Hand.ends m' g')⟩
  · rw [(e c).1, (e c).2.1, (e c).2.2.1, (e c).2.2.2.1, (e c).2.2.2.2]
  · rw [(e c).1, (e c).2.1, (e c).2.2.1]
    rfl

/-- Everything the certificate claims. -/
theorem claim : Cert.Claim :=
  ⟨Cert.Kernel.Gen.facts, Cert.KernelIdeal.Gen.facts, Cert.ReferenceIdeal.Gen.facts,
    kernel_frame, ideal_frame, reference_frame, named, same⟩

end Cert.Proof

end
